-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![512, 4096]⟩ (Layout.meshBlock [2, 2, 4] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![512, 4096]⟩ (Layout.meshBlock [2, 2, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S512x512 : Shape := ⟨2, ![512, 512]⟩
abbrev S4x128x512 : Shape := ⟨3, ![4, 128, 512]⟩
abbrev S4 : Shape := ⟨1, ![4]⟩
abbrev S_ : Shape := ⟨0, ![]⟩
abbrev S128x2048 : Shape := ⟨2, ![128, 2048]⟩
abbrev S128x512 : Shape := ⟨2, ![128, 512]⟩
abbrev S1x128x512 : Shape := ⟨3, ![1, 128, 512]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S512x512, .f32⟩
  | .local _ .vmem, ⟨0, _⟩ => ⟨S512x2048, .bf16⟩
  | .local _ .vmem, ⟨1, _⟩ => ⟨S512x2048, .bf16⟩
  | .local _ .vmem, ⟨2, _⟩ => ⟨S512x512, .f32⟩
  | .local _ .vmem, ⟨3, _⟩ => ⟨S4x128x512, .bf16⟩
  | .local _ .vmem, ⟨4, _⟩ => ⟨S4x128x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_21 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_20 : BitVec 32 := 8#32
  let v27 : BitVec 32 := Scalar.muli v9 c8_i32_20
  let v28 : BitVec 32 := Scalar.addi c0_i32_21 v27
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v29 : BitVec 32 := Scalar.muli v5 c4_i32_22
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v31 : BitVec 32 := Scalar.muli v8 c1_i32_23
  let v32 : BitVec 32 := Scalar.addi v30 v31
  v32.toNat
def k0_dev3 (d0 : Dev nD) : Nat :=
  let c0_i32_39 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_38 : BitVec 32 := 8#32
  let v49 : BitVec 32 := Scalar.muli v9 c8_i32_38
  let v50 : BitVec 32 := Scalar.addi c0_i32_39 v49
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v51 : BitVec 32 := Scalar.muli v5 c4_i32_40
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v53 : BitVec 32 := Scalar.muli v8 c1_i32_41
  let v54 : BitVec 32 := Scalar.addi v52 v53
  v54.toNat
def k0_dev4 (d0 : Dev nD) : Nat :=
  let c0_i32_57 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_56 : BitVec 32 := 8#32
  let v71 : BitVec 32 := Scalar.muli v9 c8_i32_56
  let v72 : BitVec 32 := Scalar.addi c0_i32_57 v71
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_58 : BitVec 32 := 4#32
  let v73 : BitVec 32 := Scalar.muli v5 c4_i32_58
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v75 : BitVec 32 := Scalar.muli v8 c1_i32_59
  let v76 : BitVec 32 := Scalar.addi v74 v75
  v76.toNat
def k0_dev5 (d0 : Dev nD) : Nat :=
  let c0_i32_74 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_73 : BitVec 32 := 8#32
  let v93 : BitVec 32 := Scalar.muli v9 c8_i32_73
  let v94 : BitVec 32 := Scalar.addi c0_i32_74 v93
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v95 : BitVec 32 := Scalar.muli v5 c4_i32_75
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v97 : BitVec 32 := Scalar.muli v8 c1_i32_76
  let v98 : BitVec 32 := Scalar.addi v96 v97
  v98.toNat
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S512x4096, .bf16⟩
  | .hbm, ⟨2, _⟩ => ⟨S4096x512, .bf16⟩
  | .hbm, ⟨3, _⟩ => ⟨S512x512, .f32⟩
  | .hbm, ⟨4, _⟩ => ⟨S512x512, .bf16⟩
  | .hbm, ⟨5, _⟩ => ⟨S512x512, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Protocol.lean ====
/-
# The exchange between the two devices of an x pair, written down as a schedule

Devices `c` and `peer c` differ in their x coordinate alone. Each computes the product of its own column blocks, four
chunks of 128 rows, and the two exchange the chunks. The semaphores of device `c` and who pays them:

* the runtime's barrier semaphore: one unit, from `peer c`, handing over the four landing slots of `peer c`;
* departure semaphore `i`: chunk `i`'s credit, from `c`'s own copy, handing back the slot it was read from;
* arrival semaphore `i`: chunk `i`'s credit, from `peer c`'s copy, handing over landing slot `i` with `peer c`'s chunk.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline's own rounds and those of the exchange (one duty per round) -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every counter at zero, any generator registers. -/
abbrev s₀ : MemSt nD τ sig (Elt F) := ⟨m, fun _ => 0, ρ⟩

/-! ## The peer -/

set_option backward.proofsInPublic true in
/-- The device that differs in the x coordinate alone: device numbers run x-major, eight devices to an x plane. -/
def peer (c : Dev nD) : Dev nD := ⟨(c.val + 8) % 16, Nat.mod_lt _ (by decide)⟩

theorem peer_peer (c : Dev nD) : peer (peer c) = c := by revert c; decide

/-- Taking the peer, as a permutation of the devices. -/
def swap : Dev nD ≃ Dev nD := ⟨peer, peer, peer_peer, peer_peer⟩

theorem peer_closed (c : Dev nD) : 4 * ((c.val / 4) % 2) + (c.val % 4) + 8 - 8 * (c.val / 8) = (peer c).val := by
  revert c; decide

/-- Every device number the kernel computes, for its signal and its four copies, is the peer's. -/
theorem dev1_eq (c : Dev nD) : (⟨k0_dev1 c, k0_dev1_lt c⟩ : Dev nD) = peer c := Fin.ext ((k0_dev1_eq c).trans (peer_closed c))
theorem dev2_eq (c : Dev nD) : (⟨k0_dev2 c, k0_dev2_lt c⟩ : Dev nD) = peer c := Fin.ext ((k0_dev2_eq c).trans (peer_closed c))
theorem dev3_eq (c : Dev nD) : (⟨k0_dev3 c, k0_dev3_lt c⟩ : Dev nD) = peer c := Fin.ext ((k0_dev3_eq c).trans (peer_closed c))
theorem dev4_eq (c : Dev nD) : (⟨k0_dev4 c, k0_dev4_lt c⟩ : Dev nD) = peer c := Fin.ext ((k0_dev4_eq c).trans (peer_closed c))
theorem dev5_eq (c : Dev nD) : (⟨k0_dev5 c, k0_dev5_lt c⟩ : Dev nD) = peer c := Fin.ext ((k0_dev5_eq c).trans (peer_closed c))

/-! ## Buffers, slots and semaphores -/

abbrev dyM : Memref sig .tc .vmem S512x2048 .bf16 := Memref.whole cc0_stg0_0
abbrev wM : Memref sig .tc .vmem S512x2048 .bf16 := Memref.whole cc0_stg1_0
abbrev outM : Memref sig .tc .vmem S512x512 .f32 := Memref.whole cc0_stg2_0
abbrev sendM : Memref sig .tc .vmem S4x128x512 .bf16 := Memref.whole cc0_scratch0
abbrev recvM : Memref sig .tc .vmem S4x128x512 .bf16 := Memref.whole cc0_scratch1

theorem slot_inb (i : Fin 4) : ∀ a, (![i.val, 0, 0] : Fin 3 → Nat) a + S1x128x512.size a ≤ S4x128x512.size a := by
  revert i; decide
theorem rows_inb (i : Fin 4) : ∀ a, (![128 * i.val, 0] : Fin 2 → Nat) a + S128x2048.size a ≤ S512x2048.size a := by
  revert i; decide

/-- Slot `i` of a four-chunk buffer. -/
abbrev slotR (i : Fin 4) : Rect S4x128x512 := Rect.unit (s := S4x128x512) ![i.val, 0, 0] S1x128x512.size (slot_inb i)

/-- Chunk `i` of the send buffer and of the landing buffer, as the copies name them. -/
abbrev sendSlot (i : Fin 4) : Memref sig .tc .vmem S128x512 .bf16 :=
  (sendM.slice (slotR i) (fun _ => rfl)).squeeze S128x512 squeezes_S1x128x512_S128x512
abbrev recvSlot (i : Fin 4) : Memref sig .tc .vmem S128x512 .bf16 :=
  (recvM.slice (slotR i) (fun _ => rfl)).squeeze S128x512 squeezes_S1x128x512_S128x512

/-- The runtime's barrier semaphore, and the kernel's own eight: departures first, then arrivals. -/
abbrev barS : Sem sig := (SemArray.scalar (sig.barrier 0 rfl) : Sems sig S_).sem
set_option backward.proofsInPublic true in
abbrev ownS (j : Fin 8) : DmaSem sig := ⟨3 + j.val, by have := j.isLt; show 3 + j.val < 11; omega⟩
set_option backward.proofsInPublic true in
abbrev depS (i : Fin 4) : DmaSem sig := ownS ⟨i.val, by omega⟩
set_option backward.proofsInPublic true in
abbrev arrS (i : Fin 4) : DmaSem sig := ownS ⟨4 + i.val, by omega⟩

abbrev barCell (c : Dev nD) : GSem nD τ sig := ((c : Thread nD τ), .reg barS)
abbrev depCell (c : Dev nD) (i : Fin 4) : GSem nD τ sig := ((c : Thread nD τ), .dma (depS i))
abbrev arrCell (c : Dev nD) (i : Fin 4) : GSem nD τ sig := ((c : Thread nD τ), .dma (arrS i))

/-- The kernel's own semaphores as the launch indexes them. -/
abbrev osem (j : Fin 8) : SemLoc sig := .dma (ownS j)
/-- A device's nine cells of the exchange: its barrier's (`none`) and its own eight. -/
abbrev csem : Option (Fin 8) → SemLoc sig := fun | none => .reg barS | some j => osem j
abbrev kcell (ck : Dev nD × Option (Fin 8)) : GSem nD τ sig := ((ck.1 : Thread nD τ), csem ck.2)

/-- The units one chunk's copy credits. -/
abbrev N : ℕ := (recvSlot 0).view.dmaCredit
theorem N_pos : 0 < N := View.dmaCredit_pos _ (by decide)

/-! ## Contents -/

/-- The column blocks device `c` holds of the two arguments. -/
def dyAt (c : Dev nD) : S512x2048.Idx → Elt F .bf16 :=
  (win0_0.blk (0 : Fin 1)).view.read (Elt F) (m ((c : Thread nD τ).loc main_arg0))
def wAt (c : Dev nD) : S512x2048.Idx → Elt F .bf16 :=
  (win0_1.blk (0 : Fin 1)).view.read (Elt F) (m ((c : Thread nD τ).loc main_arg1))

/-- Rows `128 i` to `128 i + 127` of an argument's column block. -/
def rowsOf (x : S512x2048.Idx → Elt F .bf16) (i : Fin 4) : S128x2048.Idx → Elt F .bf16 :=
  fun y => x ((Rect.unit (s := S512x2048) ![128 * i.val, 0] S128x2048.size (rows_inb i)).toLoadRect.idx y)

/-- Chunk `i` of device `c`'s own partial product. -/
def part (c : Dev nD) (i : Fin 4) : S128x512.Idx → Elt F .f32 := k0_pay2 (wAt m c) (rowsOf (dyAt m c) i)
/-- The same rounded to bf16: what device `c` sends. -/
def sent (c : Dev nD) (i : Fin 4) : S128x512.Idx → Elt F .bf16 := truncf .bf16 (part m c i) bitsLt_bf16_f32
/-- Chunk `i` of device `c`'s result: its own partial product and the peer's rounded one. -/
def total (c : Dev nD) (i : Fin 4) : S128x512.Idx → Elt F .f32 :=
  addf (part m c i) (extf .f32 (sent m (peer c) i) bitsLt_bf16_f32)

/-- A slot held at some values. -/
def sendPts (c : Dev nD) (i : Fin 4) (x : S128x512.Idx → Elt F .bf16) : sProp 𝕄 :=
  (sendSlot i).view.loc (c : Thread nD τ) ↦[(sendSlot i).view.set]{fullShare} (sendSlot i).view.rep x
def recvPts (c : Dev nD) (i : Fin 4) (x : S128x512.Idx → Elt F .bf16) : sProp 𝕄 :=
  (recvSlot i).view.loc (c : Thread nD τ) ↦[(recvSlot i).view.set]{fullShare} (recvSlot i).view.rep x
/-- A landing slot held at whatever it holds. -/
def recvAny (c : Dev nD) (i : Fin 4) : sProp 𝕄 :=
  iprop(∃ f : Buf (Elt F) ((recvSlot i).view.loc (c : Thread nD τ)), (recvSlot i).view.loc (c : Thread nD τ) ↦[(recvSlot i).view.set]{fullShare} f)

omit [FloatOps F] in
theorem recvAny_eq (c : Dev nD) (i : Fin 4) : (recvAny c i : sProp 𝕄) = iprop(∃ f : Buf (Elt F) ((recvSlot i).view.loc (c : Thread nD τ)),
    (recvSlot i).view.loc (c : Thread nD τ) ↦[(recvSlot i).view.set]{fullShare} f) := rfl

omit [FloatOps F] in
instance sendPts_storable (c : Dev nD) (i x) : BI.Storable (upEmb : UEmb _ 𝕄) (sendPts (F := F) c i x) := by unfold sendPts; infer_instance
omit [FloatOps F] in
instance recvPts_storable (c : Dev nD) (i x) : BI.Storable (upEmb : UEmb _ 𝕄) (recvPts (F := F) c i x) := by unfold recvPts; infer_instance
omit [FloatOps F] in
instance recvAny_storable (c : Dev nD) (i) : BI.Storable (upEmb : UEmb _ 𝕄) (recvAny (F := F) c i) := by unfold recvAny; infer_instance

/-! ## The schedule -/

/-- What the peer's barrier signal hands device `c`: the peer's four landing slots, and that the peer's arrival cells are
    at round 0. -/
def barPay (c : Dev nD) : sProp 𝕄 :=
  iprop(recvAny (peer c) 0 ∗ recvAny (peer c) 1 ∗ recvAny (peer c) 2 ∗ recvAny (peer c) 3
    ∗ reached EX (arrCell (peer c) 0) 0 ∗ reached EX (arrCell (peer c) 1) 0 ∗ reached EX (arrCell (peer c) 2) 0 ∗ reached EX (arrCell (peer c) 3) 0)

omit [FloatOps F] in
instance barPay_storable (c : Dev nD) : BI.Storable (upEmb : UEmb _ 𝕄) (barPay (F := F) c) := by unfold barPay; infer_instance

/-- What own semaphore `j` of device `c` hands over: a departure the send slot back, an arrival the landing slot filled. -/
def ownPay (c : Dev nD) (j : Fin 8) : sProp 𝕄 :=
  if h : j.val < 4 then sendPts c ⟨j.val, h⟩ (sent m c ⟨j.val, h⟩)
  else recvPts c ⟨j.val - 4, by omega⟩ (sent m (peer c) ⟨j.val - 4, by omega⟩)

instance ownPay_storable (c : Dev nD) (j) : BI.Storable (upEmb : UEmb _ 𝕄) (ownPay (F := F) m c j) := by
  unfold ownPay; split <;> infer_instance

/-- The cells of the exchange on a TensorCore: the barrier's and the kernel's own eight. -/
def IsCell (g : GSem nD τ sig) : Prop := g.1.2 = .tc ∧ ∃ k, g.2 = csem k

open Classical in
/-- One round per cell, one duty in it: a unit on a barrier cell, a chunk's credit on the others. -/
def sched : Rounds.Schedule (GSem nD τ sig) Unit 𝕄 where
  duties g r := if r = 0 ∧ IsCell g then {()} else ∅
  amount g _ _ := match g.2 with | .reg _ => 1 | .dma _ => N
  payload g _ _ := match g.2 with
    | .reg _ => barPay g.1.1
    | .dma q => if h : 3 ≤ q.val ∧ q.val < 11 then ownPay m g.1.1 ⟨q.val - 3, by omega⟩ else iprop(emp)
  unitless _ := False
  amount_pos g _ _ _ := by split; exacts [Nat.one_pos, N_pos]

instance sched_payload_storable (g : GSem nD τ sig) (r : ℕ) (d : Unit) :
    BI.Storable (upEmb : UEmb _ 𝕄) ((sched (F := F) m).payload g r d) := by
  dsimp only [sched]; split
  · infer_instance
  · split <;> infer_instance

section Tables
variable (c : Dev nD)

omit [FloatOps F] in
theorem isCell_k (k : Option (Fin 8)) : IsCell (kcell (c, k)) := ⟨rfl, k, rfl⟩

theorem duties_k (k : Option (Fin 8)) : (sched (F := F) m).duties (kcell (c, k)) 0 = {()} := if_pos ⟨rfl, isCell_k c k⟩
theorem duties_bar : (sched (F := F) m).duties (barCell c) 0 = {()} := duties_k m c none
theorem duties_dep (i : Fin 4) : (sched (F := F) m).duties (depCell c i) 0 = {()} := duties_k m c (some _)
theorem duties_arr (i : Fin 4) : (sched (F := F) m).duties (arrCell c i) 0 = {()} := duties_k m c (some _)
theorem duties_later (g : GSem nD τ sig) : ∀ r, 1 ≤ r → (sched (F := F) m).duties g r = ∅ :=
  fun r hr => if_neg fun h => by omega

theorem amount_bar (d : Unit) : (sched (F := F) m).amount (barCell c) 0 d = 1 := rfl
theorem amount_dep (i : Fin 4) (d : Unit) : (sched (F := F) m).amount (depCell c i) 0 d = N := rfl
theorem amount_arr (i : Fin 4) (d : Unit) : (sched (F := F) m).amount (arrCell c i) 0 d = N := rfl

theorem expect_bar : (sched (F := F) m).expect (barCell c) 0 = 1 := by
  unfold Schedule.expect Schedule.amountOf; rw [duties_bar, Finset.sum_singleton, amount_bar]
theorem expect_dep (i : Fin 4) : (sched (F := F) m).expect (depCell c i) 0 = N := by
  unfold Schedule.expect Schedule.amountOf; rw [duties_dep, Finset.sum_singleton, amount_dep]
theorem expect_arr (i : Fin 4) : (sched (F := F) m).expect (arrCell c i) 0 = N := by
  unfold Schedule.expect Schedule.amountOf; rw [duties_arr, Finset.sum_singleton, amount_arr]

theorem payload_bar (d : Unit) : (sched (F := F) m).payload (barCell c) 0 d = barPay c := rfl
theorem payload_dep (i : Fin 4) (d : Unit) : (sched (F := F) m).payload (depCell c i) 0 d = sendPts c i (sent m c i) := by
  revert i; intro i; fin_cases i <;> rfl
theorem payload_arr (i : Fin 4) (d : Unit) : (sched (F := F) m).payload (arrCell c i) 0 d = recvPts c i (sent m (peer c) i) := by
  revert i; intro i; fin_cases i <;> rfl

end Tables

end Cert.KProof

end
-- ==== Proof.Steps.lean ====
/-
# What the body's steps need

The levels the waits are ordered by, what a device owes at launch, the program's names, and what the program loads and stores.
-/
module

public import proofs.«01_k».proof.Proof.Protocol
public import Idealize.ShloMosaic.Lib.Pipeline.Value
public import Idealize.ShloMosaic.Lib.Pipeline.ReadBack
public import Idealize.ShloMosaic.Lib.WritesUnit
public import Idealize.ShloMosaic.Lib.VecWindow

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes at launch, and the levels -/

/-- Device `c` owes its peer's arrival cells a chunk each; -/
abbrev Oarr (c : Dev nD) : CellTallies nD τ sig Unit :=
  tallyAt (arrCell (peer c) 3) () N + tallyAt (arrCell (peer c) 2) () N + tallyAt (arrCell (peer c) 1) () N + tallyAt (arrCell (peer c) 0) () N
/-- and its peer's barrier cell a unit. -/
abbrev O₀ (c : Dev nD) : CellTallies nD τ sig Unit := Oarr c + tallyAt (barCell (peer c)) () 1

/-- Cells are waited for on TensorCores only. -/
def L (g : GSem nD τ sig) : Finset Unit := if g.1.2 = .tc then {()} else ∅
/-- Staging and departure cells lowest, then the barrier's, then the arrival cells. -/
def lv (g : GSem nD τ sig) (_ : Unit) : ℕ := match g.2 with | .reg _ => 1 | .dma q => if 7 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- Where the arrival debt lies: on the peer's arrival cells. -/
theorem Oarr_pos {c : Dev nD} {g : GSem nD τ sig} {u : Unit} (h : 0 < Oarr c g u) : ∃ i, g = arrCell (peer c) i := by
  by_contra hn
  push Not at hn
  simp only [Oarr, Pi.add_apply, Finsupp.add_apply, tallyAt_apply, hn, false_and, if_false, Nat.add_zero, Nat.lt_irrefl] at h

theorem O₀_pos {c : Dev nD} {g : GSem nD τ sig} {u : Unit} (h : 0 < O₀ c g u) : g = barCell (peer c) ∨ ∃ i, g = arrCell (peer c) i := by
  by_cases hb : g = barCell (peer c)
  · exact .inl hb
  · refine .inr (Oarr_pos (u := u) ?_)
    simpa only [O₀, Pi.add_apply, Finsupp.add_apply, tallyAt_apply, hb, false_and, if_false, Nat.add_zero] using h

theorem lv_arr (c : Dev nD) (i : Fin 4) (u : Unit) : lv (arrCell c i) u = 2 := if_pos (by show 7 ≤ 3 + (4 + i.val); omega)

/-- A device may wait on a staging cell whatever it owes at launch or after the body. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | ⟨i, rfl⟩ <;> exact Finset.mem_singleton_self _)
      (fun p hp => by rw [Finset.mem_singleton.mp hp]; exact (if_neg (by omega) : (if 7 ≤ q.val then 2 else 0) = 0).le)
      (fun g u hg => by
        rcases O₀_pos hg with rfl | ⟨i, rfl⟩
        · exact Nat.one_pos
        · rw [lv_arr]; exact Nat.two_pos)
  · rw [MayWait_zero]; iintro -; iempintro

/-- At its barrier wait a device owes arrival cells only, which lie above the barrier's. -/
theorem mayWait_bar (c : Dev nD) : (levAts L lv : sProp 𝕄) ⊢ MayWait (c : Thread nD τ) (.reg barS) () (Oarr c) :=
  MayOwe.of_cut (L := L) (lev := lv) 1 (fun p hp => by rw [Finset.mem_singleton.mp hp, L_tc]; exact Finset.mem_singleton_self _)
    (fun g u hg => by obtain ⟨i, rfl⟩ := Oarr_pos hg; exact Finset.mem_singleton_self _)
    (fun p hp => by rw [Finset.mem_singleton.mp hp]; exact le_refl 1)
    (fun g u hg => by obtain ⟨i, rfl⟩ := Oarr_pos hg; rw [lv_arr]; decide)

/-! ## The program's names for the semaphores and the slots -/

theorem dep_0 : ((cc0_scratch2.slice (Rect.unit (s := S4) ![0] S1.size inb_S4_S1_0)).squeeze S_ squeezes_S1_S_).sem = depS 0 := rfl
theorem dep_1 : ((cc0_scratch2.slice (Rect.unit (s := S4) ![1] S1.size inb_S4_S1_1)).squeeze S_ squeezes_S1_S_).sem = depS 1 := rfl
theorem dep_2 : ((cc0_scratch2.slice (Rect.unit (s := S4) ![2] S1.size inb_S4_S1_2)).squeeze S_ squeezes_S1_S_).sem = depS 2 := rfl
theorem dep_3 : ((cc0_scratch2.slice (Rect.unit (s := S4) ![3] S1.size inb_S4_S1_3)).squeeze S_ squeezes_S1_S_).sem = depS 3 := rfl
theorem arr_0 : ((cc0_scratch3.slice (Rect.unit (s := S4) ![0] S1.size inb_S4_S1_0)).squeeze S_ squeezes_S1_S_).sem = arrS 0 := rfl
theorem arr_1 : ((cc0_scratch3.slice (Rect.unit (s := S4) ![1] S1.size inb_S4_S1_1)).squeeze S_ squeezes_S1_S_).sem = arrS 1 := rfl
theorem arr_2 : ((cc0_scratch3.slice (Rect.unit (s := S4) ![2] S1.size inb_S4_S1_2)).squeeze S_ squeezes_S1_S_).sem = arrS 2 := rfl
theorem arr_3 : ((cc0_scratch3.slice (Rect.unit (s := S4) ![3] S1.size inb_S4_S1_3)).squeeze S_ squeezes_S1_S_).sem = arrS 3 := rfl

theorem sendSlot_0 : (sendM.slice (Rect.unit (s := S4x128x512) ![0, 0, 0] S1x128x512.size inb_S4x128x512_S1x128x512_0_0_0) (fun _ => rfl)).squeeze S128x512 squeezes_S1x128x512_S128x512 = sendSlot 0 := rfl
theorem sendSlot_1 : (sendM.slice (Rect.unit (s := S4x128x512) ![1, 0, 0] S1x128x512.size inb_S4x128x512_S1x128x512_1_0_0) (fun _ => rfl)).squeeze S128x512 squeezes_S1x128x512_S128x512 = sendSlot 1 := rfl
theorem sendSlot_2 : (sendM.slice (Rect.unit (s := S4x128x512) ![2, 0, 0] S1x128x512.size inb_S4x128x512_S1x128x512_2_0_0) (fun _ => rfl)).squeeze S128x512 squeezes_S1x128x512_S128x512 = sendSlot 2 := rfl
theorem sendSlot_3 : (sendM.slice (Rect.unit (s := S4x128x512) ![3, 0, 0] S1x128x512.size inb_S4x128x512_S1x128x512_3_0_0) (fun _ => rfl)).squeeze S128x512 squeezes_S1x128x512_S128x512 = sendSlot 3 := rfl
theorem recvSlot_0 : (recvM.slice (Rect.unit (s := S4x128x512) ![0, 0, 0] S1x128x512.size inb_S4x128x512_S1x128x512_0_0_0) (fun _ => rfl)).squeeze S128x512 squeezes_S1x128x512_S128x512 = recvSlot 0 := rfl
theorem recvSlot_1 : (recvM.slice (Rect.unit (s := S4x128x512) ![1, 0, 0] S1x128x512.size inb_S4x128x512_S1x128x512_1_0_0) (fun _ => rfl)).squeeze S128x512 squeezes_S1x128x512_S128x512 = recvSlot 1 := rfl
theorem recvSlot_2 : (recvM.slice (Rect.unit (s := S4x128x512) ![2, 0, 0] S1x128x512.size inb_S4x128x512_S1x128x512_2_0_0) (fun _ => rfl)).squeeze S128x512 squeezes_S1x128x512_S128x512 = recvSlot 2 := rfl
theorem recvSlot_3 : (recvM.slice (Rect.unit (s := S4x128x512) ![3, 0, 0] S1x128x512.size inb_S4x128x512_S1x128x512_3_0_0) (fun _ => rfl)).squeeze S128x512 squeezes_S1x128x512_S128x512 = recvSlot 3 := rfl

/-- A send slot just stored with a chunk, cast to one leading axis, reads that chunk. -/
theorem read_stored (i : Fin 4) (f : (sendSlot i).view.ty.Contents (Elt F)) (x : S128x512.Idx → Elt F .bf16) :
    (sendSlot i).view.read (Elt F)
      (View.write (Elt F) (sendM.access (slotR i)) f (shapeCast S1x128x512 x shapeCasts_S128x512_S1x128x512) Finset.univ) = x := by
  rw [Memref.read_squeeze_slice sendM (slotR i) _ _ shapeCasts_S1x128x512_S128x512, View.readAt_rect]
  exact (congrArg (fun y => shapeCast S128x512 y shapeCasts_S1x128x512_S128x512) (View.read_write_univ _ _)).trans
    (shapeCast_shapeCast _ _ _)

/-- A load of the whole weight block reads it; -/
theorem readW (c : Dev nD) (h) : View.readAt (Elt F) wM.view (Rect.unit (s := S512x2048) ![0, 0] S512x2048.size h).toLoadRect (wM.view.rep (wAt m c)) = wAt m c := by
  rw [View.readAt_rep]
  refine funext fun x => congrArg (wAt m c) (funext fun a => Fin.ext ?_)
  have h0 : (![0, 0] : Fin 2 → ℕ) a = 0 := by fin_cases a <;> rfl
  show ![0, 0] a + 1 * (x a).val = (x a).val
  rw [h0]; omega
/-- a load of 128 rows of the other reads those rows. -/
theorem readDy (c : Dev nD) (i : Fin 4) : View.readAt (Elt F) dyM.view (Rect.unit (s := S512x2048) ![128 * i.val, 0] S128x2048.size (rows_inb i)).toLoadRect (dyM.view.rep (dyAt m c)) = rowsOf (dyAt m c) i :=
  View.readAt_rep ..

/-- What the program loads of the weight block, and of rows 0, 128, 256 and 384 of the other. -/
abbrev wL (c : Dev nD) : S512x2048.Idx → Elt F .bf16 :=
  View.readAt (Elt F) wM.view (Rect.unit (s := S512x2048) ![0, 0] S512x2048.size inb_S512x2048_S512x2048_0_0).toLoadRect (wM.view.rep (wAt m c))
abbrev dyL0 (c : Dev nD) : S128x2048.Idx → Elt F .bf16 :=
  View.readAt (Elt F) dyM.view (Rect.unit (s := S512x2048) ![0, 0] S128x2048.size inb_S512x2048_S128x2048_0_0).toLoadRect (dyM.view.rep (dyAt m c))
abbrev dyL1 (c : Dev nD) : S128x2048.Idx → Elt F .bf16 :=
  View.readAt (Elt F) dyM.view (Rect.unit (s := S512x2048) ![128, 0] S128x2048.size inb_S512x2048_S128x2048_128_0).toLoadRect (dyM.view.rep (dyAt m c))
abbrev dyL2 (c : Dev nD) : S128x2048.Idx → Elt F .bf16 :=
  View.readAt (Elt F) dyM.view (Rect.unit (s := S512x2048) ![256, 0] S128x2048.size inb_S512x2048_S128x2048_256_0).toLoadRect (dyM.view.rep (dyAt m c))
abbrev dyL3 (c : Dev nD) : S128x2048.Idx → Elt F .bf16 :=
  View.readAt (Elt F) dyM.view (Rect.unit (s := S512x2048) ![384, 0] S128x2048.size inb_S512x2048_S128x2048_384_0).toLoadRect (dyM.view.rep (dyAt m c))

/-- The four products the program stores are the four chunks of the device's own product, -/
theorem part_0 (c : Dev nD) : k0_pay2 (wL m c) (dyL0 m c) = part m c 0 :=
  congrArg₂ (k0_pay2) (readW m c _) (readDy m c 0)
theorem part_1 (c : Dev nD) : k0_pay4 (k0_pay1 (wL m c)) (dyL1 m c) = part m c 1 :=
  congrArg₂ (fun a b => k0_pay4 (k0_pay1 a) b) (readW m c _) (readDy m c 1)
theorem part_2 (c : Dev nD) : k0_pay6 (k0_pay1 (wL m c)) (dyL2 m c) = part m c 2 :=
  congrArg₂ (fun a b => k0_pay6 (k0_pay1 a) b) (readW m c _) (readDy m c 2)
theorem part_3 (c : Dev nD) : k0_pay8 (k0_pay1 (wL m c)) (dyL3 m c) = part m c 3 :=
  congrArg₂ (fun a b => k0_pay8 (k0_pay1 a) b) (readW m c _) (readDy m c 3)

/-- and the four send slots it stores read the chunks it sends. -/
theorem stored_0 (c : Dev nD) (f : (sendSlot 0).view.ty.Contents (Elt F)) : (sendSlot 0).view.read (Elt F)
    (View.write (Elt F) ((Memref.whole cc0_scratch0).access (Rect.unit ![0, 0, 0] S1x128x512.size inb_S4x128x512_S1x128x512_0_0_0)) f
      (k0_pay3 (wL m c) (dyL0 m c)) Finset.univ) = sent m c 0 := by
  unfold k0_pay3; rw [part_0]; exact read_stored 0 f _
theorem stored_1 (c : Dev nD) (f : (sendSlot 1).view.ty.Contents (Elt F)) : (sendSlot 1).view.read (Elt F)
    (View.write (Elt F) ((Memref.whole cc0_scratch0).access (Rect.unit ![1, 0, 0] S1x128x512.size inb_S4x128x512_S1x128x512_1_0_0)) f
      (k0_pay5 (k0_pay1 (wL m c)) (dyL1 m c)) Finset.univ) = sent m c 1 := by
  unfold k0_pay5; rw [part_1]; exact read_stored 1 f _
theorem stored_2 (c : Dev nD) (f : (sendSlot 2).view.ty.Contents (Elt F)) : (sendSlot 2).view.read (Elt F)
    (View.write (Elt F) ((Memref.whole cc0_scratch0).access (Rect.unit ![2, 0, 0] S1x128x512.size inb_S4x128x512_S1x128x512_2_0_0)) f
      (k0_pay7 (k0_pay1 (wL m c)) (dyL2 m c)) Finset.univ) = sent m c 2 := by
  unfold k0_pay7; rw [part_2]; exact read_stored 2 f _
theorem stored_3 (c : Dev nD) (f : (sendSlot 3).view.ty.Contents (Elt F)) : (sendSlot 3).view.read (Elt F)
    (View.write (Elt F) ((Memref.whole cc0_scratch0).access (Rect.unit ![3, 0, 0] S1x128x512.size inb_S4x128x512_S1x128x512_3_0_0)) f
      (k0_pay9 (k0_pay8 (k0_pay1 (wL m c)) (dyL3 m c))) Finset.univ) = sent m c 3 := by
  unfold k0_pay9; rw [part_3]; exact read_stored 3 f _

/-! ## What the out block ends holding -/

/-- A load of a landing slot holding a chunk, its leading axis cast away, reads that chunk; -/
theorem read_landed (i : Fin 4) (x : S128x512.Idx → Elt F .bf16) :
    shapeCast S128x512 (View.readAt (Elt F) recvM.view (slotR i).toLoadRect ((recvSlot i).view.rep x)) shapeCasts_S1x128x512_S128x512 = x :=
  (Memref.read_squeeze_slice recvM (slotR i) (fun _ => rfl) squeezes_S1x128x512_S128x512 shapeCasts_S1x128x512_S128x512 _).symm.trans
    (View.read_rep (recvSlot i).view x)

/-- so what the program stores back of chunk `i` is the chunk's total. -/
theorem total_eq (c : Dev nD) (i : Fin 4) : addf (shapeCast S128x512 (part m c i) shapeCasts_S128x512_S128x512)
    (extf .f32 (shapeCast S128x512 (View.readAt (Elt F) recvM.view (slotR i).toLoadRect ((recvSlot i).view.rep (sent m (peer c) i)))
      shapeCasts_S1x128x512_S128x512) bitsLt_bf16_f32) = total m c i := by
  rw [read_landed, shapeCast_self]; rfl

/-- Which chunk a row of the out block is in, and where in the chunk an element lies. -/
def quarter (x : S512x512.Idx) : Fin 4 := ⟨(x 0).val / 128, by have := (x 0).isLt; show (x 0).val / 128 < 4; change (x 0).val < 512 at this; omega⟩
def inChunk (x : S512x512.Idx) : S128x512.Idx := fun a => match a with
  | 0 => ⟨(x 0).val % 128, Nat.mod_lt _ (by decide)⟩
  | 1 => ⟨(x 1).val, (x 1).isLt⟩

/-- The out block after the body: chunk by chunk the totals. -/
def outAt (c : Dev nD) : S512x512.Idx → Elt F .f32 := fun x => total m c (quarter x) (inChunk x)

/-- The out block stored whole in four chunks reads them, whatever was stored before. -/
theorem read_chunks (t : Fin 4 → S128x512.Idx → Elt F .f32) (f : outM.view.ty.Contents (Elt F)) (P : List (View.Piece (Elt F) S512x512 .f32)) :
    outM.view.read (Elt F) (outM.view.writes (Elt F) f
      (⟨Rect.unit (s := S512x512) ![384, 0] S128x512.size inb_S512x512_S128x512_384_0, t 3⟩
        :: ⟨Rect.unit (s := S512x512) ![256, 0] S128x512.size inb_S512x512_S128x512_256_0, t 2⟩
        :: ⟨Rect.unit (s := S512x512) ![128, 0] S128x512.size inb_S512x512_S128x512_128_0, t 1⟩
        :: ⟨Rect.unit (s := S512x512) ![0, 0] S128x512.size inb_S512x512_S128x512_0_0, t 0⟩ :: P))
      = fun x => t (quarter x) (inChunk x) := by
  funext x
  have hq : (quarter x).val = (x 0).val / 128 := rfl
  have hx : ∀ (o : ℕ), (x 0).val = o + (x 0).val % 128 → ∀ a, (x a).val = (![o, 0] : Fin 2 → ℕ) a + (inChunk x a).val := by
    intro o ho a
    fin_cases a
    · exact ho
    · exact (Nat.zero_add _).symm
  have hlt : (x 0).val < 512 := (x 0).isLt
  have hcase : quarter x = 0 ∨ quarter x = 1 ∨ quarter x = 2 ∨ quarter x = 3 := by
    generalize quarter x = k; fin_cases k <;> decide
  rcases hcase with h | h | h | h <;> rw [h] at hq ⊢ <;> simp only [Fin.val_zero, Fin.val_one, Fin.val_two] at hq
  · rw [View.read_writes_cons_unit_of_not_mem _ _ _ _ _ x rfl (0 : Fin 2) (.inl (by show (x 0).val < 384; omega)),
      View.read_writes_cons_unit_of_not_mem _ _ _ _ _ x rfl (0 : Fin 2) (.inl (by show (x 0).val < 256; omega)),
      View.read_writes_cons_unit_of_not_mem _ _ _ _ _ x rfl (0 : Fin 2) (.inl (by show (x 0).val < 128; omega))]
    exact View.read_writes_cons_unit_of_mem _ _ _ _ _ x (inChunk x) rfl (hx 0 (by omega))
  · rw [View.read_writes_cons_unit_of_not_mem _ _ _ _ _ x rfl (0 : Fin 2) (.inl (by show (x 0).val < 384; omega)),
      View.read_writes_cons_unit_of_not_mem _ _ _ _ _ x rfl (0 : Fin 2) (.inl (by show (x 0).val < 256; omega))]
    exact View.read_writes_cons_unit_of_mem _ _ _ _ _ x (inChunk x) rfl (hx 128 (by omega))
  · rw [View.read_writes_cons_unit_of_not_mem _ _ _ _ _ x rfl (0 : Fin 2) (.inl (by show (x 0).val < 384; omega))]
    exact View.read_writes_cons_unit_of_mem _ _ _ _ _ x (inChunk x) rfl (hx 256 (by omega))
  · have hq3 : 3 = (x 0).val / 128 := hq
    exact View.read_writes_cons_unit_of_mem _ _ _ _ _ x (inChunk x) rfl (hx 384 (by omega))

end Cert.KProof

end
-- ==== Proof.Body.lean ====
/-
# The kernel body on one device, at a symbolic device

The copy of one chunk, and the body run once from the exchange's ghost state.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Option (Fin 8) → ℕ)

/-- The names of the invariants of device `c`'s departure and arrival cell `i`. -/
abbrev kDep (c : Dev nD) (i : Fin 4) : Dev nD × Option (Fin 8) := (c, some ⟨i.val, by omega⟩)
abbrev kArr (c : Dev nD) (i : Fin 4) : Dev nD × Option (Fin 8) := (c, some ⟨4 + i.val, by omega⟩)

/-- The two duties device `c`'s copy of chunk `i` pays: its own departure's and its peer's arrival's. -/
def copyToks (c : Dev nD) (i : Fin 4) : sProp 𝕄 := iprop(dutyTok EX (depCell c i) 0 () ∗ dutyTok EX (arrCell (peer c) i) 0 ())

/-- What device `c` has of chunk `i`'s exchange at the start: the three cells' invariants, its positions at its own two,
    that they are at round 0, and the duties its copy pays. -/
def chunkGhost (c : Dev nD) (i : Fin 4) : sProp 𝕄 :=
  iprop(cellInv EX (sched m) (K (kDep c i)) (depCell c i) ∗ cellInv EX (sched m) (K (kArr c i)) (arrCell c i)
    ∗ cellInv EX (sched m) (K (kArr (peer c) i)) (arrCell (peer c) i)
    ∗ reached EX (depCell c i) 0 ∗ reached EX (arrCell c i) 0
    ∗ atPos EX (depCell c i) 0 ∅ 0 ∗ atPos EX (arrCell c i) 0 ∅ 0 ∗ copyToks c i)

/-- What it has of the barrier's: its own cell's invariant and position, the peer's cell's invariant, that it is at
    round 0, and the duty its signal pays. -/
def barGhost (c : Dev nD) : sProp 𝕄 :=
  iprop(cellInv EX (sched m) (K (c, none)) (barCell c) ∗ cellInv EX (sched m) (K (peer c, none)) (barCell (peer c))
    ∗ reached EX (barCell (peer c)) 0 ∗ atPos EX (barCell c) 0 ∅ 0 ∗ dutyTok EX (barCell (peer c)) 0 ())

/-- The launch credit of device `c`'s own cells that its peer pays. -/
def credits (c : Dev nD) : sProp 𝕄 :=
  iprop(cred (tallyAt (barCell c) () 1) ∗ cred (tallyAt (arrCell c 0) () N) ∗ cred (tallyAt (arrCell c 1) () N)
    ∗ cred (tallyAt (arrCell c 2) () N) ∗ cred (tallyAt (arrCell c 3) () N))

/-- The copy of chunk `i`: the send slot reading the chunk and the peer's landing slot, given as the two duties'
    payloads, become the departure credit, and the peer's arrival cell is owed no more. -/
theorem wp_send_chunk (c n : Dev nD) (hn : n = peer c) (i : Fin 4) {hsc : (recvSlot i : Memref sig (Dev.tc n : Thread nD τ).2.kind .vmem S128x512 .bf16).view.ref.isScScratch = false}
    {hsrc : (sendSlot i).view.WordExact} {hdst : (recvSlot i).view.WordExact}
    {hsem : DmaTarget.Typed .vmem (.dma (arrS i)) (.remote (Dev.tc n : Thread nD τ) (recvSlot i : Memref sig (Dev.tc n : Thread nD τ).2.kind .vmem S128x512 .bf16) (.dma (depS i)) hsc)}
    {α : Type} {Q : α → sProp 𝕄} {k : PUnit → Prog (TpuEff nD τ sig (Elt F) Λ₀ .tc) α}
    (fs : Buf (Elt F) ((sendSlot i).view.loc (c : Thread nD τ))) (fd : Buf (Elt F) ((recvSlot i).view.loc (peer c : Thread nD τ)))
    (hfs : (sendSlot i).view.read (Elt F) fs = sent m c i) (O : CellTallies nD τ sig Unit)
    {O' : CellTallies nD τ sig Unit} (hO : O' = O + tallyAt (arrCell (peer c) i) () N) {W : Waits sig Unit} :
    iprop(cellInv EX (sched m) (K (kDep c i)) (depCell c i) ∗ cellInv EX (sched m) (K (kArr (peer c) i)) (arrCell (peer c) i)
        ∗ reached EX (depCell c i) 0 ∗ reached EX (arrCell (peer c) i) 0
        ∗ ((sendSlot i).view.loc (c : Thread nD τ) ↦[(sendSlot i).view.set]{fullShare} fs)
        ∗ ((recvSlot i).view.loc (peer c : Thread nD τ) ↦[(recvSlot i).view.set]{fullShare} fd)
        ∗ owes (c : Thread nD τ) O' W ∗ copyToks c i)
      ⊢ iprop(((cred (tallyAt (depCell c i) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (sendSlot i) (.remote (Dev.tc n : Thread nD τ) (recvSlot i) (.dma (depS i)) hsc) (.dma (arrS i)) hsrc hdst hsem) k) Q) := by
  subst hn
  unfold copyToks
  iintro ⟨#ID, #IA, #RD, #RA, Hs, Hr, HO, TD, TA⟩
  iapply (Rounds.wp_send_pointsTo Variants.none EX (sched m) (c : Thread nD τ) none (κ₁ := K (kDep c i)) (κ₂ := K (kArr (peer c) i))
    (r₁ := 0) (r₂ := 0) (d₁ := ()) (d₂ := ()) (fs := fs) (fd := fd)
    (by rw [duties_dep]; exact Finset.mem_singleton_self _) (by rw [duties_arr]; exact Finset.mem_singleton_self _)
    () () N rfl (amount_dep m c i ()) (amount_arr m (peer c) i ()) O hO (W := W)
    (by
      rw [payload_dep]; unfold sendPts
      rw [pointsTo_rep (c : Thread nD τ) (sendSlot i) fs fullShare, hfs])
    (by
      rw [payload_arr]; unfold recvPts
      rw [peer_peer]
      rw [pointsTo_rep (peer c : Thread nD τ) (recvSlot i) _ fullShare, View.read_write_univ, hfs])) $$ [Hs Hr HO TD TA]
  isplitr; · iexact ID
  isplitr; · iexact IA
  isplitl [Hs]; · iexact Hs
  isplitl [Hr]; · iexact Hr
  isplitl [HO]; · iexact HO
  isplitl [TD]; · iexact TD
  isplitr; · iexact RD
  isplitl [TA]; · iexact TA
  iexact RA

attribute [local sl_rounds] duties_bar duties_dep duties_arr amount_bar amount_dep amount_arr payload_bar payload_dep payload_arr
  expect_bar expect_dep expect_arr sendPts recvPts recvAny_eq barPay peer_peer
attribute [local sl_canon] dep_0 dep_1 dep_2 dep_3 arr_0 arr_1 arr_2 arr_3

/-- A cell of the exchange whose one round is over gives its counter back, at zero. -/
theorem close_cell (c : Dev nD) (k : Option (Fin 8)) :
    iprop(cellInv EX (sched m) (K (c, k)) (kcell (c, k)) ∗ atPos EX (kcell (c, k)) 1 ∅ 0) ⊢ |={Set.univ}=> (semVal (kcell (c, k)) 0 : sProp 𝕄) :=
  Rounds.cell_close EX (sched m) (Set.mem_univ (K (c, k))) (fun h => h) (R := 1) (duties_later m (kcell (c, k)))

/-- What device `c` has of chunk `i`'s exchange at the end: both slots, at what they hold, and its two counters at zero. -/
def chunkDone (c : Dev nD) (i : Fin 4) : sProp 𝕄 :=
  iprop(sendPts c i (sent m c i) ∗ recvPts c i (sent m (peer c) i) ∗ semVal (depCell c i) 0 ∗ semVal (arrCell c i) 0)

/-- What the body leaves device `c`: nothing owed, the blocks in place, the out block at the totals, every counter at zero. -/
def bodyAfter (c : Dev nD) : sProp 𝕄 :=
  iprop((∃ W : Waits sig Unit, owes (c : Thread nD τ) 0 W)
      ∗ (dyM.view.loc (c : Thread nD τ) ↦[dyM.view.set]{fullShare} dyM.view.rep (dyAt m c))
      ∗ (wM.view.loc (c : Thread nD τ) ↦[wM.view.set]{fullShare} wM.view.rep (wAt m c))
      ∗ (outM.view.loc (c : Thread nD τ) ↦[outM.view.set]{fullShare} outM.view.rep (outAt m c))
      ∗ semVal (barCell c) 0 ∗ chunkDone m c 0 ∗ chunkDone m c 1 ∗ chunkDone m c 2 ∗ chunkDone m c 3)

set_option maxHeartbeats 800000 in
/-- One device's body: from its share of the exchange's ghost state, the two column blocks in place and its slots, it
    runs without getting stuck and ends with the out block at the totals, nothing owed, and every counter at zero. -/
theorem body_run (c : Dev nD) (W : Waits sig Unit) (Kt : PUnit → sProp 𝕄) (g0 : S512x512.Idx → Elt F .f32) :
    iprop(barGhost m K c ∗ chunkGhost m K c 0 ∗ chunkGhost m K c 1 ∗ chunkGhost m K c 2 ∗ chunkGhost m K c 3 ∗ credits c
      ∗ levAts L lv
      ∗ owes (c : Thread nD τ) (O₀ c) W
      ∗ (dyM.view.loc (c : Thread nD τ) ↦[dyM.view.set]{fullShare} dyM.view.rep (dyAt m c))
      ∗ (wM.view.loc (c : Thread nD τ) ↦[wM.view.set]{fullShare} wM.view.rep (wAt m c))
      ∗ (outM.view.loc (c : Thread nD τ) ↦[outM.view.set]{fullShare} outM.view.rep g0)
      ∗ (∃ f, sendPts c 0 f) ∗ (∃ f, sendPts c 1 f) ∗ (∃ f, sendPts c 2 f) ∗ (∃ f, sendPts c 3 f)
      ∗ recvAny c 0 ∗ recvAny c 1 ∗ recvAny c 2 ∗ recvAny c 3 ∗ (bodyAfter m c -∗ Kt ⟨⟩))
      ⊢ wp frame (wpE (defs₀ (F := F)) Variants.none c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  unfold sendPts recvAny O₀ Oarr barGhost chunkGhost credits
  iintro ⟨⟨#IB, #IBp, #RBp, AB, TBp⟩, ⟨#ID0, #IA0, #IAp0, #RD0, #RA0, AD0, AA0, T0⟩, ⟨#ID1, #IA1, #IAp1, #RD1, #RA1, AD1, AA1, T1⟩,
    ⟨#ID2, #IA2, #IAp2, #RD2, #RA2, AD2, AA2, T2⟩, ⟨#ID3, #IA3, #IAp3, #RD3, #RA3, AD3, AA3, T3⟩,
    ⟨CB, CA0, CA1, CA2, CA3⟩, #Hlev, HO, Hdy, Hw, Hout,
    ⟨%s0, S0⟩, ⟨%s1, S1⟩, ⟨%s2, S2⟩, ⟨%s3, S3⟩, ⟨%r0, R0⟩, ⟨%r1, R1⟩, ⟨%r2, R2⟩, ⟨%r3, R3⟩, Hk⟩
  have h1 := dev1_eq c
  have h2 := dev2_eq c
  have h3 := dev3_eq c
  have h4 := dev4_eq c
  have h5 := dev5_eq c
  have hmw := mayWait_bar (F := F) c
  unfold Oarr at hmw
  sl_exec
  unfold body_run.sl.S0_w1
  iapply (wp_send_chunk m K c _ rfl 0 _ _ (stored_0 m c _) _ rfl) $$ [S0 AB_pay1 AB_pay5 HO T0]
  · isplitr; · iexact ID0
    isplitr; · iexact IAp0
    isplitr; · iexact RD0
    isplitl [AB_pay5]; · iexact AB_pay5
    isplitl [S0]; · iexact S0
    isplitl [AB_pay1]; · iexact AB_pay1
    isplitl [HO]; · iexact HO
    iexact T0
  iintro ⟨CD0, HO⟩
  sl_exec
  unfold body_run.sl.S1_w1 body_run.sl.r
  iapply (wp_send_chunk m K c _ rfl 1 _ _ (stored_1 m c _) _ rfl) $$ [S1 AB_pay2 AB_pay6 HO T1]
  · isplitr; · iexact ID1
    isplitr; · iexact IAp1
    isplitr; · iexact RD1
    isplitl [AB_pay6]; · iexact AB_pay6
    isplitl [S1]; · iexact S1
    isplitl [AB_pay2]; · iexact AB_pay2
    isplitl [HO]; · iexact HO
    iexact T1
  iintro ⟨CD1, HO⟩
  sl_exec
  unfold body_run.sl.S2_w1
  iapply (wp_send_chunk m K c _ rfl 2 _ _ (stored_2 m c _) _ rfl) $$ [S2 AB_pay3 AB_pay7 HO T2]
  · isplitr; · iexact ID2
    isplitr; · iexact IAp2
    isplitr; · iexact RD2
    isplitl [AB_pay7]; · iexact AB_pay7
    isplitl [S2]; · iexact S2
    isplitl [AB_pay3]; · iexact AB_pay3
    isplitl [HO]; · iexact HO
    iexact T2
  iintro ⟨CD2, HO⟩
  sl_exec
  unfold body_run.sl.S3_w1
  iapply (wp_send_chunk m K c _ rfl 3 _ _ (stored_3 m c _) 0 (zero_add _).symm) $$ [S3 AB_pay4 AB_pay8 HO T3]
  · isplitr; · iexact ID3
    isplitr; · iexact IAp3
    isplitr; · iexact RD3
    isplitl [AB_pay8]; · iexact AB_pay8
    isplitl [S3]; · iexact S3
    isplitl [AB_pay4]; · iexact AB_pay4
    isplitl [HO]; · iexact HO
    iexact T3
  iintro ⟨CD3, HO⟩
  sl_exec
  have e0 : k0_pay10 (body_run.sl.v119 m c) (body_run.sl.v121 m c) = total m c 0 := by
    have h : body_run.sl.v119 m c = part m c 0 := by
      unfold body_run.sl.v119
      rw [View.readCov_skip _ _ _ _ _ (by decide), View.readCov_skip _ _ _ _ _ (by decide), View.readCov_skip _ _ _ _ _ (by decide),
        View.readCov_cons_toLoadRect]
      exact part_0 m c
    rw [h]; exact total_eq m c 0
  have e1 : k0_pay11 (body_run.sl.v138 m c) (body_run.sl.v140 m c) = total m c 1 := by
    have h : body_run.sl.v138 m c = part m c 1 := by
      unfold body_run.sl.v138 body_run.sl.Hout_5
      rw [View.readCov_skip _ _ _ _ _ (by decide), View.readCov_skip _ _ _ _ _ (by decide), View.readCov_skip _ _ _ _ _ (by decide),
        View.readCov_cons_toLoadRect]
      exact part_1 m c
    rw [h]; exact total_eq m c 1
  have e2 : k0_pay12 (body_run.sl.v157 m c) (body_run.sl.v159 m c) = total m c 2 := by
    have h : body_run.sl.v157 m c = part m c 2 := by
      unfold body_run.sl.v157 body_run.sl.Hout_6 body_run.sl.Hout_5
      rw [View.readCov_skip _ _ _ _ _ (by decide), View.readCov_skip _ _ _ _ _ (by decide), View.readCov_skip _ _ _ _ _ (by decide),
        View.readCov_cons_toLoadRect]
      exact part_2 m c
    rw [h]; exact total_eq m c 2
  have e3 : k0_pay13 (body_run.sl.v176 m c) (body_run.sl.v178 m c) = total m c 3 := by
    have h : body_run.sl.v176 m c = part m c 3 := by
      unfold body_run.sl.v176 body_run.sl.Hout_7 body_run.sl.Hout_6 body_run.sl.Hout_5
      rw [View.readCov_skip _ _ _ _ _ (by decide), View.readCov_skip _ _ _ _ _ (by decide), View.readCov_skip _ _ _ _ _ (by decide),
        View.readCov_cons_toLoadRect]
      exact part_3 m c
    rw [h]; exact total_eq m c 3
  have hout : outM.view.read (Elt F) (outM.view.writes (Elt F) (outM.view.rep g0)
      (⟨Rect.unit ![384, 0] S128x512.size inb_S512x512_S128x512_384_0, k0_pay13 (body_run.sl.v176 m c) (body_run.sl.v178 m c)⟩ :: body_run.sl.Hout_7 m c)) = outAt m c := by
    unfold body_run.sl.Hout_7 body_run.sl.Hout_6 body_run.sl.Hout_5
    rw [e0, e1, e2, e3]
    exact read_chunks (total m c) _ _
  imod (close_cell m K c none) $$ [AB] with ZB
  · isplitr; · iexact IB
    iexact AB
  imod (close_cell m K c (some ⟨0, by decide⟩)) $$ [AD0] with ZD0
  · isplitr; · iexact ID0
    iexact AD0
  imod (close_cell m K c (some ⟨4 + 0, by decide⟩)) $$ [AA0] with ZA0
  · isplitr; · iexact IA0
    iexact AA0
  imod (close_cell m K c (some ⟨1, by decide⟩)) $$ [AD1] with ZD1
  · isplitr; · iexact ID1
    iexact AD1
  imod (close_cell m K c (some ⟨4 + 1, by decide⟩)) $$ [AA1] with ZA1
  · isplitr; · iexact IA1
    iexact AA1
  imod (close_cell m K c (some ⟨2, by decide⟩)) $$ [AD2] with ZD2
  · isplitr; · iexact ID2
    iexact AD2
  imod (close_cell m K c (some ⟨4 + 2, by decide⟩)) $$ [AA2] with ZA2
  · isplitr; · iexact IA2
    iexact AA2
  imod (close_cell m K c (some ⟨3, by decide⟩)) $$ [AD3] with ZD3
  · isplitr; · iexact ID3
    iexact AD3
  imod (close_cell m K c (some ⟨4 + 3, by decide⟩)) $$ [AA3] with ZA3
  · isplitr; · iexact IA3
    iexact AA3
  rw [wp_ret]; imodintro
  iapply Hk
  unfold bodyAfter chunkDone sendPts recvPts
  isplitl [HO]; · iexists _; iexact HO
  isplitl [Hdy]; · iexact Hdy
  isplitl [Hw]; · iexact Hw
  isplitl [Hout]
  · rw [← hout, ← pointsTo_rep (c : Thread nD τ) outM _ fullShare]; iexact Hout
  isplitl [ZB]; · iexact ZB
  isplitl [AD0_pay1 AA0_pay1 ZD0 ZA0]
  · isplitl [AD0_pay1]; · iexact AD0_pay1
    isplitl [AA0_pay1]; · iexact AA0_pay1
    isplitl [ZD0]; · iexact ZD0
    iexact ZA0
  isplitl [AD1_pay1 AA1_pay1 ZD1 ZA1]
  · isplitl [AD1_pay1]; · iexact AD1_pay1
    isplitl [AA1_pay1]; · iexact AA1_pay1
    isplitl [ZD1]; · iexact ZD1
    iexact ZA1
  isplitl [AD2_pay1 AA2_pay1 ZD2 ZA2]
  · isplitl [AD2_pay1]; · iexact AD2_pay1
    isplitl [AA2_pay1]; · iexact AA2_pay1
    isplitl [ZD2]; · iexact ZD2
    iexact ZA2
  isplitl [AD3_pay1]; · iexact AD3_pay1
  isplitl [AA3_pay1]; · iexact AA3_pay1
  isplitl [ZD3]; · iexact ZD3
  iexact ZA3

end Body

end Cert.KProof

end
-- ==== Proof.Slots.lean ====
/-
# The four slots of a four-chunk buffer

The send buffer and the landing buffer are each held whole by the launch and slot by slot by the body.
-/
module

public import proofs.«01_k».proof.Proof.Protocol
public import Idealize.ShloMosaic.Lib.Ring
public import Idealize.ShloMosaic.Lib.Exec.Geometry
public import Idealize.ShloMosaic.Lib.Pipeline.Value

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Ring (pointsTo_blocks pointsTo_blocks_join_exists)

variable {F : FTy → Type} [FloatOps F]

local notation "𝕄" => MT nD τ sig Unit (Elt F) ℕ UU ℕ

/-- The elements of slot `i`. -/
def slotSet (i : Fin 4) : Finset S4x128x512.Idx := (slotR i).set

/-- An element lies in the slot its leading coordinate names. -/
theorem mem_slotSet (i : Fin 4) (y : S4x128x512.Idx) : y ∈ slotSet i ↔ (y 0).val = i.val := by
  unfold slotSet
  rw [Rect.mem_set_unit]
  constructor
  · intro h
    have h0 := h 0
    change i.val ≤ (y 0).val ∧ (y 0).val < i.val + 1 at h0
    omega
  · intro h a
    have ha := (y a).isLt
    fin_cases a
    · show i.val ≤ (y 0).val ∧ (y 0).val < i.val + 1; omega
    · exact ⟨Nat.zero_le _, by simpa using ha⟩
    · exact ⟨Nat.zero_le _, by simpa using ha⟩

/-- The slots of one buffer are pairwise disjoint, -/
theorem slot_disjoint : ∀ i j : Fin 4, i ≠ j → Disjoint (slotSet i) (slotSet j) := fun i j h =>
  Finset.disjoint_left.mpr fun y hi hj => h (Fin.ext (((mem_slotSet i y).mp hi).symm.trans ((mem_slotSet j y).mp hj)))
/-- and cover it. -/
theorem slot_cover : (Finset.univ : Finset (Fin 4)).biUnion slotSet = Finset.univ :=
  Finset.eq_univ_iff_forall.mpr fun y => Finset.mem_biUnion.mpr ⟨(y 0).cast rfl, Finset.mem_univ _, (mem_slotSet _ y).mpr rfl⟩

theorem sendSlot_set (i : Fin 4) : (sendSlot i).view.set = slotSet i :=
  (Memref.set_view_squeeze _ _).trans (View.set_slice_whole _ _)
theorem recvSlot_set (i : Fin 4) : (recvSlot i).view.set = slotSet i :=
  (Memref.set_view_squeeze _ _).trans (View.set_slice_whole _ _)

/-- A conjunction over the four chunks, one by one. -/
theorem bigSep_four {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- A send slot held at whatever it holds. -/
def sendAny (c : Dev nD) (i : Fin 4) : sProp 𝕄 := iprop(∃ x, sendPts (F := F) c i x)

theorem sendAny_of (c : Dev nD) (i : Fin 4) (f : Buf (Elt F) ((c : Thread nD τ).loc cc0_scratch0)) :
    (((c : Thread nD τ).loc cc0_scratch0) ↦[slotSet i]{fullShare} f : sProp 𝕄) ⊢ sendAny c i := by
  unfold sendAny sendPts
  iintro H
  iexists ((sendSlot i).view.read (Elt F) f)
  rw [← pointsTo_rep (c : Thread nD τ) (sendSlot i) f fullShare, sendSlot_set i]
  iexact H
theorem of_sendAny (c : Dev nD) (i : Fin 4) :
    sendAny c i ⊢ (iprop(∃ f : Buf (Elt F) ((c : Thread nD τ).loc cc0_scratch0), ((c : Thread nD τ).loc cc0_scratch0) ↦[slotSet i]{fullShare} f) : sProp 𝕄) := by
  unfold sendAny sendPts
  iintro ⟨%x, H⟩
  iexists ((sendSlot i).view.rep x)
  rw [← sendSlot_set i]
  iexact H
theorem recvAny_of (c : Dev nD) (i : Fin 4) (f : Buf (Elt F) ((c : Thread nD τ).loc cc0_scratch1)) :
    (((c : Thread nD τ).loc cc0_scratch1) ↦[slotSet i]{fullShare} f : sProp 𝕄) ⊢ recvAny c i := by
  unfold recvAny
  iintro H
  iexists f
  rw [recvSlot_set i]
  iexact H
theorem of_recvAny (c : Dev nD) (i : Fin 4) :
    recvAny c i ⊢ (iprop(∃ f : Buf (Elt F) ((c : Thread nD τ).loc cc0_scratch1), ((c : Thread nD τ).loc cc0_scratch1) ↦[slotSet i]{fullShare} f) : sProp 𝕄) := by
  unfold recvAny
  rw [← recvSlot_set i]

/-- The send buffer, whole at some contents, is its four slots; -/
theorem send_split (c : Dev nD) :
    (iprop(∃ f : Buf (Elt F) ((c : Thread nD τ).loc cc0_scratch0), ((c : Thread nD τ).loc cc0_scratch0) ↦{fullShare} f) : sProp 𝕄)
      ⊢ iprop(sendAny (F := F) c 0 ∗ sendAny (F := F) c 1 ∗ sendAny (F := F) c 2 ∗ sendAny (F := F) c 3) := by
  iintro ⟨%f, H⟩
  ihave H4 := (Entails.of_eq ((pointsTo_blocks (Ix := Unit) (Name := ℕ) (U := UU) (Lvl := ℕ) (q := fullShare)
    (ℓ := (c : Thread nD τ).loc cc0_scratch0) slotSet slot_disjoint slot_cover f).trans (bigSep_four _))) $$ H
  icases H4 with ⟨H0, H1, H2, H3⟩
  isplitl [H0]; · iapply (sendAny_of c 0 f); iexact H0
  isplitl [H1]; · iapply (sendAny_of c 1 f); iexact H1
  isplitl [H2]; · iapply (sendAny_of c 2 f); iexact H2
  iapply (sendAny_of c 3 f); iexact H3

/-- and the four slots at any contents make the buffer again. -/
theorem send_join (c : Dev nD) :
    iprop(sendAny (F := F) c 0 ∗ sendAny (F := F) c 1 ∗ sendAny (F := F) c 2 ∗ sendAny (F := F) c 3)
      ⊢ (iprop(∃ f : Buf (Elt F) ((c : Thread nD τ).loc cc0_scratch0), ((c : Thread nD τ).loc cc0_scratch0) ↦{fullShare} f) : sProp 𝕄) := by
  iintro ⟨H0, H1, H2, H3⟩
  ihave H0' := (of_sendAny c 0) $$ H0
  icases H0' with ⟨%f0, H0⟩
  iapply (pointsTo_blocks_join_exists (ℓ := (c : Thread nD τ).loc cc0_scratch0) slotSet slot_disjoint slot_cover f0)
  irw [bigSep_four]
  isplitl [H0]; · iexists f0; iexact H0
  isplitl [H1]; · iapply (of_sendAny c 1); iexact H1
  isplitl [H2]; · iapply (of_sendAny c 2); iexact H2
  iapply (of_sendAny c 3); iexact H3

/-- The landing buffer, whole at some contents, is its four slots; -/
theorem recv_split (c : Dev nD) :
    (iprop(∃ f : Buf (Elt F) ((c : Thread nD τ).loc cc0_scratch1), ((c : Thread nD τ).loc cc0_scratch1) ↦{fullShare} f) : sProp 𝕄)
      ⊢ iprop(recvAny (F := F) c 0 ∗ recvAny (F := F) c 1 ∗ recvAny (F := F) c 2 ∗ recvAny (F := F) c 3) := by
  iintro ⟨%f, H⟩
  ihave H4 := (Entails.of_eq ((pointsTo_blocks (Ix := Unit) (Name := ℕ) (U := UU) (Lvl := ℕ) (q := fullShare)
    (ℓ := (c : Thread nD τ).loc cc0_scratch1) slotSet slot_disjoint slot_cover f).trans (bigSep_four _))) $$ H
  icases H4 with ⟨H0, H1, H2, H3⟩
  isplitl [H0]; · iapply (recvAny_of c 0 f); iexact H0
  isplitl [H1]; · iapply (recvAny_of c 1 f); iexact H1
  isplitl [H2]; · iapply (recvAny_of c 2 f); iexact H2
  iapply (recvAny_of c 3 f); iexact H3

/-- and the four slots at any contents make the buffer again. -/
theorem recv_join (c : Dev nD) :
    iprop(recvAny (F := F) c 0 ∗ recvAny (F := F) c 1 ∗ recvAny (F := F) c 2 ∗ recvAny (F := F) c 3)
      ⊢ (iprop(∃ f : Buf (Elt F) ((c : Thread nD τ).loc cc0_scratch1), ((c : Thread nD τ).loc cc0_scratch1) ↦{fullShare} f) : sProp 𝕄) := by
  iintro ⟨H0, H1, H2, H3⟩
  ihave H0' := (of_recvAny c 0) $$ H0
  icases H0' with ⟨%f0, H0⟩
  iapply (pointsTo_blocks_join_exists (ℓ := (c : Thread nD τ).loc cc0_scratch1) slotSet slot_disjoint slot_cover f0)
  irw [bigSep_four]
  isplitl [H0]; · iexists f0; iexact H0
  isplitl [H1]; · iapply (of_recvAny c 1); iexact H1
  isplitl [H2]; · iapply (of_recvAny c 2); iexact H2
  iapply (of_recvAny c 3); iexact H3

end Cert.KProof

end
-- ==== Proof.Launch.lean ====
/-
# The launch: from any memory to every device's out block

The pipeline's proof data at one grid point, the exchange's ghost state funded at launch and dealt to the devices, and
the run of @main.
-/
module

public import proofs.«01_k».proof.Proof.Body
public import proofs.«01_k».proof.Proof.Slots

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The one grid point. -/
abbrev t₀ : Fin cfg0.N := t0_0

/-- Device `c`'s share of the exchange's ghost state. -/
def ghost (K : Dev nD × Option (Fin 8) → ℕ) (c : Dev nD) : sProp 𝕄 :=
  iprop(barGhost m K c ∗ chunkGhost m K c 0 ∗ chunkGhost m K c 1 ∗ chunkGhost m K c 2 ∗ chunkGhost m K c 3)

/-- What the body starts from besides its buffers: that at some names, the launch credit and the levels. -/
def start (c : Dev nD) : sProp 𝕄 := iprop((∃ K, ghost m K c) ∗ credits c ∗ levAts L lv)

/-- All eight slots at whatever they hold. -/
def slotsAny (c : Dev nD) : sProp 𝕄 :=
  iprop((sendAny c 0 ∗ sendAny c 1 ∗ sendAny c 2 ∗ sendAny c 3) ∗ (recvAny c 0 ∗ recvAny c 1 ∗ recvAny c 2 ∗ recvAny c 3))

/-- The kernel's own eight counters at zero. -/
def zeros (c : Dev nD) : sProp 𝕄 :=
  iprop((semVal (depCell c 0) 0 ∗ semVal (depCell c 1) 0 ∗ semVal (depCell c 2) 0 ∗ semVal (depCell c 3) 0)
    ∗ (semVal (arrCell c 0) 0 ∗ semVal (arrCell c 1) 0 ∗ semVal (arrCell c 2) 0 ∗ semVal (arrCell c 3) 0))

def Φ₀ (c : Dev nD) : sProp 𝕄 := iprop(start m c ∗ slotsAny c)
def Φ₁ (c : Dev nD) : sProp 𝕄 := iprop(slotsAny (F := F) c ∗ zeros c ∗ semVal (barCell c) 0)

/-- The launch's proof data: the arrays at the initial memory; after the point, the two blocks fetched and the totals. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => dyAt m c
    | ⟨1, _⟩ => wAt m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- A staging buffer owned at `X` is the buffer whole at `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The buffer whole at `X`, as the body's memref names it. -/
theorem stg_rep (c : Dev nD) (b : Ref sig .tc) (X : b.ty.Contents (Elt F)) :
    (stg c b X : sProp 𝕄) ⊢ ((Memref.whole b).view.loc (c : Thread nD τ) ↦[(Memref.whole b).view.set]{fullShare} (Memref.whole b).view.rep X) := by
  iintro ⟨%f, %hf, H⟩
  subst hf
  iapply (Entails.of_eq (pointsTo_rep (c : Thread nD τ) (Memref.whole b) f fullShare))
  rw [show (Memref.whole b).view.set = Finset.univ from View.set_whole b]
  iexact H
theorem rep_stg (c : Dev nD) (b : Ref sig .tc) (X : b.ty.Contents (Elt F)) :
    ((Memref.whole b).view.loc (c : Thread nD τ) ↦[(Memref.whole b).view.set]{fullShare} (Memref.whole b).view.rep X) ⊢ (stg c b X : sProp 𝕄) := by
  iintro H
  iexists ((Memref.whole b).view.rep X)
  isplitr
  · ipureintro; exact View.read_rep (View.whole b) X
  · rw [show (Memref.whole b).view.set = Finset.univ from View.set_whole b]
    iexact H

def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (dyAt m c) ∗ stg c cc0_stg1_0 (wAt m c) ∗ stg c cc0_stg2_0 (outAt m c))

theorem before_dy (c : Dev nD) (d) : (dats m ρ 0 c).before (0 : Fin 3) t₀ d = dyAt m c := by
  unfold Dat.before; rw [if_pos (fetch0_0 t₀)]; rfl
theorem before_w (c : Dev nD) (d) : (dats m ρ 0 c).before (1 : Fin 3) t₀ d = wAt m c := by
  unfold Dat.before; rw [if_pos (fetch0_1 t₀)]; rfl

/-- What the body leaves is what the pipeline asks after the point. -/
theorem bodyAfter_post (c : Dev nD) : bodyAfter m c ⊢ bodyPost m ρ c := by
  unfold bodyAfter bodyPost Φ₁ slotsAny zeros chunkDone
  iintro ⟨⟨%W, HO⟩, Hdy, Hw, Hout, ZB, ⟨S0, R0, D0, A0⟩, ⟨S1, R1, D1, A1⟩, ⟨S2, R2, D2, A2⟩, ⟨S3, R3, D3, A3⟩⟩
  isplitl [ZB S0 R0 D0 A0 S1 R1 D1 A1 S2 R2 D2 A2 S3 R3 D3 A3]
  · isplitl [S0 R0 S1 R1 S2 R2 S3 R3]
    · unfold sendAny recvAny recvPts
      isplitl [S0 S1 S2 S3]
      · isplitl [S0]; · iexists _; iexact S0
        isplitl [S1]; · iexists _; iexact S1
        isplitl [S2]; · iexists _; iexact S2
        iexists _; iexact S3
      · isplitl [R0]; · iexists _; iexact R0
        isplitl [R1]; · iexists _; iexact R1
        isplitl [R2]; · iexists _; iexact R2
        iexists _; iexact R3
    isplitr [ZB]
    · isplitl [D0 D1 D2 D3]
      · isplitl [D0]; · iexact D0
        isplitl [D1]; · iexact D1
        isplitl [D2]; · iexact D2
        iexact D3
      · isplitl [A0]; · iexact A0
        isplitl [A1]; · iexact A1
        isplitl [A2]; · iexact A2
        iexact A3
    iexact ZB
  isplitl [HO]
  · unfold Dat.owesAt Pipeline.owesWithin
    rw [show (dats m ρ 0 c).owed t₀.succ = 0 from rfl]
    iexists W
    isplitr
    · ipureintro; exact fun _ _ => Or.inl trivial
    · iexact HO
  isplitl [Hdy]; · iapply (rep_stg c cc0_stg0_0 (dyAt m c)); iexact Hdy
  isplitl [Hw]; · iapply (rep_stg c cc0_stg1_0 (wAt m c)); iexact Hw
  iapply (rep_stg c cc0_stg2_0 (outAt m c)); iexact Hout

/-- From what the pipeline hands it at the point, the body ends at what the pipeline asks after it. -/
theorem sound_body (c : Dev nD) :
    bodyPre m ρ c ⊢ wp frame (wpE (defs₀ (F := F)) Variants.none c none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3) (fun _ => bodyPost m ρ c) := by
  unfold bodyPre Φ₀ start ghost slotsAny
  iintro ⟨⟨⟨⟨%K, GB, G0, G1, G2, G3⟩, Hcr, Hlev⟩, ⟨S0, S1, S2, S3⟩, R0, R1, R2, R3⟩, Ho, ⟨%d0, Hdy⟩, ⟨%d1, Hw⟩, ⟨%d2, Hout⟩⟩
  unfold Dat.owesAt Pipeline.owesWithin
  icases Ho with ⟨%W, %hW, HO⟩
  rw [show (dats m ρ 0 c).owed t₀.castSucc = O₀ c from rfl, before_dy, before_w]
  iapply (body_run m K c W (fun _ => bodyPost m ρ c) ((dats m ρ 0 c).before (2 : Fin 3) t₀ d2))
  isplitl [GB]; · iexact GB
  isplitl [G0]; · iexact G0
  isplitl [G1]; · iexact G1
  isplitl [G2]; · iexact G2
  isplitl [G3]; · iexact G3
  isplitl [Hcr]; · iexact Hcr
  isplitl [Hlev]; · iexact Hlev
  isplitl [HO]; · iexact HO
  isplitl [Hdy]; · iapply (stg_rep c cc0_stg0_0 (dyAt m c)); iexact Hdy
  isplitl [Hw]; · iapply (stg_rep c cc0_stg1_0 (wAt m c)); iexact Hw
  isplitl [Hout]; · iapply (stg_rep c cc0_stg2_0 _); iexact Hout
  unfold sendAny
  isplitl [S0]; · iexact S0
  isplitl [S1]; · iexact S1
  isplitl [S2]; · iexact S2
  isplitl [S3]; · iexact S3
  isplitl [R0]; · iexact R0
  isplitl [R1]; · iexact R1
  isplitl [R2]; · iexact R2
  isplitl [R3]; · iexact R3
  iintro H
  iapply (bodyAfter_post m ρ c); iexact H

theorem body_obligation (c : Dev nD) : BodyObligation (dats (F := F) m ρ 0 c) (defs₀ (F := F)) Variants.none () Set.univ := fun t => by
  rw [fin_N0 t, bigSep_W0, bigSep_W0]
  simp only [owns_whole]
  exact sound_body m ρ c

end Cert.KProof

end
-- ==== Proof.Run.lean ====
/-
# The run of @main

The exchange's ghost state is minted once, each cell with its one duty's token; the tokens are dealt to the devices that
pay them; the cells' invariants are allocated; and the pipeline's launch gives the final memory.
-/
module

public import proofs.«01_k».proof.Proof.Launch
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The exchange's cells over the whole mesh. -/
abbrev CK : Type := Dev nD × Option (Fin 8)

theorem ownSemFacts : Pipeline.OwnSemFacts cfg0.spec osem := by decide

theorem csem_injective : Function.Injective csem := by decide

theorem kcell_injective : Function.Injective (kcell : CK → GSem nD τ sig) := fun a b h =>
  Prod.ext (congrArg (fun g : GSem nD τ sig => g.1.1) h) (csem_injective (congrArg Prod.snd h))

/-- All cells, and the one token of each. -/
def allCells : Finset (GSem nD τ sig) := Finset.univ.map ⟨kcell, kcell_injective⟩
theorem tok_injective : Function.Injective (fun ck : CK => ((kcell ck, 0, ()) : GSem nD τ sig × ℕ × Unit)) := fun a b h =>
  kcell_injective (congrArg Prod.fst h)
def allToks : Finset (GSem nD τ sig × ℕ × Unit) := Finset.univ.map ⟨fun ck : CK => (kcell ck, 0, ()), tok_injective⟩

/-- The element the launch starts the ghost state from. -/
def u₀ : UU := (initOf (Pipeline.cells cfgs cellOf_inj) (Pipeline.launchToks cfgs cellOf_inj), initOf allCells allToks)

/-- Whose cell the duty is that device `c` pays on cell `k`: its own departures', the peer's others. -/
def pays (ck : CK) : CK := (match ck.2 with | some j => if j.val < 4 then ck.1 else peer ck.1 | none => peer ck.1, ck.2)
theorem pays_pays (ck : CK) : pays (pays ck) = ck := by
  obtain ⟨c, _ | j⟩ := ck
  · exact Prod.ext (peer_peer c) rfl
  · by_cases h : j.val < 4
    · simp only [pays, if_pos h]
    · simp only [pays, if_neg h, peer_peer]
def paysEquiv : CK ≃ CK := ⟨pays, pays, pays_pays, pays_pays⟩

/-- One cell's token, position, and that it is at round 0. -/
def tok (ck : CK) : sProp 𝕄 := dutyTok EX (kcell ck) 0 ()
def pos (ck : CK) : sProp 𝕄 := atPos EX (kcell ck) 0 ∅ 0
def mark (ck : CK) : sProp 𝕄 := reached EX (kcell ck) 0
def inv (K : CK → ℕ) (ck : CK) : sProp 𝕄 := cellInv EX (sched m) (K ck) (kcell ck)

instance mark_persistent (ck : CK) : BI.Persistent (mark (F := F) ck) := by unfold mark; infer_instance
instance inv_persistent (K : CK → ℕ) (ck : CK) : BI.Persistent (inv m K ck) := by unfold inv; infer_instance

/-- What the launch element deals device `c`. -/
def G (c : Dev nD) : sProp 𝕄 :=
  iprop((bigSep Finset.univ fun k => roundState EX (sched m) (kcell (c, k)) 0)
    ∗ (bigSep Finset.univ fun k => pos (c, k)) ∗ (bigSep Finset.univ fun k => mark (c, k)) ∗ (bigSep Finset.univ fun k => tok (c, k)))
/-- What the global step makes of it. -/
def G' (c : Dev nD) : sProp 𝕄 := iprop(∃ K, ghost m K c)

theorem over_cells (Φ : GSem nD τ sig → sProp 𝕄) :
    bigSep allCells Φ = bigSep Finset.univ fun c : Dev nD => bigSep Finset.univ fun k : Option (Fin 8) => Φ (kcell (c, k)) := by
  unfold allCells; rw [bigSep_map, bigSep_univ_prod]; rfl
theorem over_toks : bigSep allToks (fun x => (dutyTok EX x.1 x.2.1 x.2.2 : sProp 𝕄))
    = bigSep Finset.univ fun c : Dev nD => bigSep Finset.univ fun k => tok (c, k) := by
  unfold allToks; rw [bigSep_map, bigSep_univ_prod]; rfl

/-- The launch element of the exchange becomes every device's share. -/
theorem fund_exchange : BI.own (EX (initOf allCells allToks)) ⊢ (|==> bigSep Finset.univ (G m) : sProp 𝕄) := by
  iintro HX
  imod (Rounds.fund EX (sched m) allCells allToks) $$ HX with ⟨Hst, Hr, Hat, Htok⟩
  imodintro
  ihave Hst' := (Entails.of_eq (over_cells fun g => roundState EX (sched m) g 0)) $$ Hst
  ihave Hat' := (Entails.of_eq (over_cells fun g => atPos EX g 0 ∅ 0)) $$ Hat
  ihave Hr' := (Entails.of_eq (over_cells fun g => reached EX g 0)) $$ Hr
  ihave Htok' := (Entails.of_eq (over_toks (F := F))) $$ Htok
  unfold G pos mark; simp only [bigSep_sep']
  isplitl [Hst']; · iexact Hst'
  isplitl [Hat']; · iexact Hat'
  isplitl [Hr']; · iexact Hr'
  iexact Htok'

/-- The nine cells of a device one by one: the barrier's, the departures, the arrivals. -/
theorem bigSep_nine (Φ : Option (Fin 8) → sProp 𝕄) : bigSep Finset.univ Φ
    = iprop(Φ none ∗ Φ (some 0) ∗ Φ (some 1) ∗ Φ (some 2) ∗ Φ (some 3) ∗ Φ (some 4) ∗ Φ (some 5) ∗ Φ (some 6) ∗ Φ (some 7)) :=
  bigSep_univ_eq_bigSepL [none, some 0, some 1, some 2, some 3, some 4, some 5, some 6, some 7] (by decide) (by decide) Φ

/-- The kernel's own semaphores are its departures and arrivals; -/
theorem ownSems0_eq (c : Dev nD) : (Pipeline.ownSems0 (Ix := Unit) (Name := ℕ) (U := UU) (Lvl := ℕ) (Val := Elt F) (τ := τ) osem c : sProp 𝕄)
    = iprop(semVal (depCell c 0) 0 ∗ semVal (depCell c 1) 0 ∗ semVal (depCell c 2) 0 ∗ semVal (depCell c 3) 0
      ∗ semVal (arrCell c 0) 0 ∗ semVal (arrCell c 1) 0 ∗ semVal (arrCell c 2) 0 ∗ semVal (arrCell c 3) 0) := by
  rw [Pipeline.ownSems0_eq_of_list c osem [0, 1, 2, 3, 4, 5, 6, 7] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are the nine cells' counters. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, bigSep_nine]
  iintro ⟨HO, HB⟩
  isplitl [HB]; · iexact HB
  iexact HO

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (bigSep Finset.univ fun k => pos (c, k)) ∗ (bigSep Finset.univ fun k => mark (c, k)) ∗ (bigSep Finset.univ fun k => tok (c, k))) := by
  unfold G
  iintro ⟨Hos, Hus, Hst, Hrest⟩
  ihave Hv := (sems0 (F := F) c) $$ [Hos Hus]
  · isplitl [Hos] <;> iassumption
  imod (show iprop((bigSep Finset.univ fun k => semVal (kcell (c, k)) 0) ∗ bigSep Finset.univ fun k => roundState EX (sched m) (kcell (c, k)) 0)
      ⊢ (|={Set.univ}=> bigSep Finset.univ fun k => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  iexact Hrest

/-- Every cell's invariant and mark, for every device to use. -/
def records (K : CK → ℕ) : sProp 𝕄 := iprop(bigSep Finset.univ (inv m K) ∗ bigSep Finset.univ (mark (F := F)))
instance records_persistent (K : CK → ℕ) : BI.Persistent (records m K) := by unfold records; infer_instance

theorem inv_at (K : CK → ℕ) (ck : CK) : bigSep Finset.univ (inv m K) ⊢ (cellInv EX (sched m) (K ck) (kcell ck) : sProp 𝕄) :=
  bigSep_elim (Φ := inv m K) (Finset.mem_univ ck)
theorem mark_at (ck : CK) : bigSep Finset.univ (mark (F := F)) ⊢ (reached EX (kcell ck) 0 : sProp 𝕄) :=
  bigSep_elim (Φ := mark (F := F)) (Finset.mem_univ ck)

/-- What stays with device `c`: its positions and the tokens of the duties it pays. -/
def linear (c : Dev nD) : sProp 𝕄 := iprop((bigSep Finset.univ fun k => pos (c, k)) ∗ bigSep Finset.univ fun k => tok (pays (c, k)))

/-- From those and the records, its share of one chunk's exchange; -/
theorem chunk_intro (K : CK → ℕ) (c : Dev nD) (i : Fin 4) :
    iprop(records m K ∗ (pos (kDep c i) ∗ pos (kArr c i)) ∗ (tok (pays (kDep c i)) ∗ tok (pays (kArr c i)))) ⊢ chunkGhost m K c i := by
  have hd : pays (kDep c i) = kDep c i := Prod.ext (if_pos i.isLt) rfl
  have ha : pays (kArr c i) = kArr (peer c) i := Prod.ext (if_neg (by show ¬ (4 + i.val < 4); omega)) rfl
  rw [hd, ha]
  unfold records chunkGhost copyToks pos tok
  iintro ⟨⟨#HI, #HR⟩, ⟨PD, PA⟩, TD, TA⟩
  isplitr; · iapply (inv_at m K (kDep c i)); iexact HI
  isplitr; · iapply (inv_at m K (kArr c i)); iexact HI
  isplitr; · iapply (inv_at m K (kArr (peer c) i)); iexact HI
  isplitr; · iapply (mark_at (F := F) (kDep c i)); iexact HR
  isplitr; · iapply (mark_at (F := F) (kArr c i)); iexact HR
  isplitl [PD]; · iexact PD
  isplitl [PA]; · iexact PA
  isplitl [TD]; · iexact TD
  iexact TA

/-- and of the whole. -/
theorem ghost_intro (K : CK → ℕ) (c : Dev nD) : iprop(records m K ∗ linear c) ⊢ G' m c := by
  unfold linear G' ghost
  rw [bigSep_nine, bigSep_nine]
  iintro ⟨#HR, ⟨PB, D0, D1, D2, D3, A0, A1, A2, A3⟩, TB, U0, U1, U2, U3, V0, V1, V2, V3⟩
  iexists K
  isplitl [PB TB]
  · unfold barGhost records pos tok
    icases HR with ⟨#HI, #HM⟩
    isplitr; · iapply (inv_at m K (c, none)); iexact HI
    isplitr; · iapply (inv_at m K (peer c, none)); iexact HI
    isplitr; · iapply (mark_at (F := F) (peer c, none)); iexact HM
    isplitl [PB]; · iexact PB
    iexact TB
  isplitl [D0 A0 U0 V0]
  · iapply (chunk_intro m K c 0)
    isplitr; · iexact HR
    isplitl [D0 A0]
    · isplitl [D0]; · iexact D0
      iexact A0
    isplitl [U0]; · iexact U0
    iexact V0
  isplitl [D1 A1 U1 V1]
  · iapply (chunk_intro m K c 1)
    isplitr; · iexact HR
    isplitl [D1 A1]
    · isplitl [D1]; · iexact D1
      iexact A1
    isplitl [U1]; · iexact U1
    iexact V1
  isplitl [D2 A2 U2 V2]
  · iapply (chunk_intro m K c 2)
    isplitr; · iexact HR
    isplitl [D2 A2]
    · isplitl [D2]; · iexact D2
      iexact A2
    isplitl [U2]; · iexact U2
    iexact V2
  iapply (chunk_intro m K c 3)
  isplitr; · iexact HR
  isplitl [D3 A3]
  · isplitl [D3]; · iexact D3
    iexact A3
  isplitl [U3]; · iexact U3
  iexact V3

/-- The tokens, minted with their cells, dealt to the devices that pay them. -/
theorem toks_dealt : (bigSep Finset.univ fun c : Dev nD => bigSep Finset.univ fun k => (tok (c, k) : sProp 𝕄))
    = bigSep Finset.univ fun c : Dev nD => bigSep Finset.univ fun k => tok (pays (c, k)) := by
  rw [← bigSep_univ_prod (fun ck : CK => (tok ck : sProp 𝕄)), ← bigSep_univ_prod (fun ck : CK => (tok (pays ck) : sProp 𝕄))]
  exact bigSep_univ_equiv paysEquiv (fun ck : CK => (tok ck : sProp 𝕄))

/-- A persistent fact goes to every member of a conjunction. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' allocated shares, regrouped: every device's start. -/
theorem regroup :
    (bigSep Finset.univ fun c : Dev nD => iprop((bigSep Finset.univ fun k => iprop(∃ κ : ℕ, cellInv EX (sched m) κ (kcell (c, k))))
          ∗ (bigSep Finset.univ fun k => pos (c, k)) ∗ (bigSep Finset.univ fun k => mark (c, k)) ∗ (bigSep Finset.univ fun k => tok (c, k))) : sProp 𝕄)
      ⊢ bigSep Finset.univ (G' m) := by
  rw [bigSep_sep', bigSep_sep', bigSep_sep', ← bigSep_univ_prod (fun ck : CK => iprop(∃ κ : ℕ, cellInv EX (sched m) κ (kcell ck))),
    ← bigSep_univ_prod (fun ck : CK => (mark ck : sProp 𝕄)), toks_dealt]
  iintro ⟨HI, Hat, #HR, Htok⟩
  ihave HK := (BI.bigSep_exists_pi Finset.univ (fun (ck : CK) (κ : ℕ) => (cellInv EX (sched m) κ (kcell ck) : sProp 𝕄))) $$ HI
  icases HK with ⟨%K, #HI⟩
  iapply (to_each (R := records m K) fun c _ => ghost_intro m K c)
  isplitr
  · unfold records
    isplitl; · iexact HI
    iexact HR
  · unfold linear
    rw [bigSep_sep']
    isplitl [Hat]; · iexact Hat
    iexact Htok

/-- The launch's global step: every device's semaphores and share at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the peers owe device `c`'s cells at launch is the credit its waits spend. -/
theorem creds (c : Dev nD) : (Pipeline.launchCred O₀ c : sProp 𝕄) ⊢ credits c := by
  have h (sm : SemLoc sig) (n : ℕ) := Pipeline.launchCred_tallyAt (nD := nD) (τ := τ) (Val := Elt F) (Ix := Unit) (Name := ℕ) (U := UU) (Lvl := ℕ)
    sm peer peer peer_peer peer_peer () n c
  unfold credits
  rw [show (O₀ : Dev nD → CellTallies nD τ sig Unit) = fun d => Oarr d + tallyAt (barCell (peer d)) () 1 from rfl, Pipeline.launchCred_add,
    Pipeline.launchCred_add, Pipeline.launchCred_add, Pipeline.launchCred_add]
  iintro ⟨⟨⟨⟨H3, H2⟩, H1⟩, H0⟩, HB⟩
  isplitl [HB]; · iapply (h (.reg barS) 1); iexact HB
  isplitl [H0]; · iapply (h (.dma (arrS 0)) N); iexact H0
  isplitl [H1]; · iapply (h (.dma (arrS 1)) N); iexact H1
  isplitl [H2]; · iapply (h (.dma (arrS 2)) N); iexact H2
  iapply (h (.dma (arrS 3)) N); iexact H3

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ slotsAny
  iintro ⟨Hs, -, HS, HR⟩
  isplitl [Hs]; · iexact Hs
  isplitl [HS]
  · iapply (send_split c); iexact HS
  · iapply (recv_split c); iexact HR

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ slotsAny zeros
  iintro ⟨⟨HS, HR⟩, ⟨⟨D0, D1, D2, D3⟩, HA⟩, HB⟩
  isplitl [HB]; · iexact HB
  isplitl [D0 D1 D2 D3 HA]
  · isplitl [D0]; · iexact D0
    isplitl [D1]; · iexact D1
    isplitl [D2]; · iexact D2
    isplitl [D3]; · iexact D3
    iexact HA
  isplitl [HS]
  · iapply (send_join c); iexact HS
  · iapply (recv_join c); iexact HR

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- The arrays' final contents on device `c`. -/
def finalA (c : Dev nD) (w : Fin cfg0.W) : Buf (Elt F) ((cfg0.win w).arr.view.loc (c : Thread nD τ)) := (dats m ρ 0 c).arrAt w cfg0.N

/-- Every device's arrays are at their final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of @main on the sixteen devices
    terminates without an undefined step, with every array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two arguments' arrays hold after the run what they held. -/
theorem finalA_dy (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.KProof

end
-- ==== Proof.Final.lean ====
/-
# What the arrays hold

Each window's block is its whole array: a device's blocks are its arguments, and its result array ends at the out block.
-/
module

public import proofs.«01_k».proof.Proof.Run

@[expose] public section

noncomputable section

namespace Cert.KProof

open Cert.KernelIdeal Cert.KernelIdeal.Gen
open Idealize.ShloMosaic
open Idealize.ShloMosaic.TcCoe
open Idealize.ShloMosaic.Pipeline (Dat Cfg Window)

variable {F : FTy → Type} [FloatOps F]

variable (m : (ℓ : Loc nD τ sig) → Buf (Elt F) ℓ) (ρ : Dev nD → PrngReg)

/-- The block of `dy` a device's body reads is the device's first argument; -/
theorem dyAt_eq (c : Dev nD) : dyAt m c = m ((c : Thread nD τ).loc main_arg0) :=
  funext fun x => congrArg (m ((c : Thread nD τ).loc main_arg0))
    (funext fun a => Fin.ext (win0_0.rect_emb_val_of_index_zero (0 : Fin 1) a rfl x))
/-- that of `W` its second. -/
theorem wAt_eq (c : Dev nD) : wAt m c = m ((c : Thread nD τ).loc main_arg1) :=
  funext fun x => congrArg (m ((c : Thread nD τ).loc main_arg1))
    (funext fun a => Fin.ext (win0_1.rect_emb_val_of_index_zero (0 : Fin 1) a rfl x))

/-- An element of the result's block is the same element of the result's array. -/
theorem out_emb (t : Fin cfg0.N) (x : S512x512.Idx) : (win0_2.rect t).emb x = x :=
  funext fun a => Fin.ext (win0_2.rect_emb_val_of_index_zero t a rfl x)

/-- The result array of a device ends holding the out block its body left. -/
theorem finalA_out (c : Dev nD) : finalA m ρ c (2 : Fin 3) = outAt m c :=
  (dats m ρ 0 c).arrAt_eq_of_cover (2 : Fin 3) (outAt m c)
    (fun t _ => funext fun x => (congrArg (outAt m c) (out_emb t x)).symm)
    (fun x => ⟨t₀, flush0_2 _, by
      have h := ((cfg0.win (2 : Fin 3)).blk t₀).view.emb_mem_set x
      have e : ((cfg0.win (2 : Fin 3)).blk t₀).view.emb x = x := out_emb t₀ x
      rw [e] at h; exact h⟩)

end Cert.KProof

end
-- ==== Proof.Product.lean ====
/-
# What one device computes, over the reals

Read over the reals a chunk of the product is a sum over the device's 2048 columns, the format changes are the identity,
and an element of the out block is the device's own sum and its peer's.
-/
module

public import proofs.«01_k».proof.Proof.Steps
public import Idealize.ShloMosaic.Lib.MatmulPlain

@[expose] public section

noncomputable section

namespace Cert.KProof

open Cert.KernelIdeal Cert.KernelIdeal.Gen
open Idealize.ShloMosaic Idealize.ShloMosaic.ValueIdx
open Idealize.ShloMosaic.TcCoe

variable (m : (ℓ : Loc nD τ sig) → Buf (Elt Ideal) ℓ)

/-- Element `(r, j)` of the product of device `c`'s column blocks: row `r` of `dy` against row `j` of `W`, over the
    device's 2048 columns. -/
def ownSum (c : Dev nD) (r j : Fin 512) : EReal :=
  ∑ k : Fin 2048, (dyAt m c (ix2 r k) : EReal) * (wAt m c (ix2 j k) : EReal)

/-- The row of the block that row `r` of chunk `i` is. -/
def rowAt (i : Fin 4) (r : Fin 128) : Fin 512 := ⟨128 * i.val + r.val, by omega⟩

/-- Row `r` of chunk `i` is row `128 i + r` of the block. -/
theorem rowsOf_apply (x : S512x2048.Idx → Elt Ideal .bf16) (i : Fin 4) (r : Fin 128) (k : Fin 2048) :
    rowsOf x i (ix2 r k) = x (ix2 (rowAt i r) k) := by
  refine congrArg x (funext fun a => Fin.ext ?_)
  match a with
  | ⟨0, _⟩ => show 128 * i.val + 1 * r.val = 128 * i.val + r.val; omega
  | ⟨1, _⟩ => show 0 + 1 * k.val = k.val; omega

/-- An element of a chunk of a device's product is the sum over its columns. -/
theorem part_apply (c : Dev nD) (i : Fin 4) (r : Fin 128) (j : Fin 512) :
    part m c i (ix2 r j) = ownSum m c (rowAt i r) j := by
  unfold part k0_pay2 k0_pay1
  simp only [shapeCast_self]
  refine (Ideal.matmul_transposedRhs_apply (M := 128) (K := 2048) (N := 512) none (rowsOf (dyAt m c) i) (wAt m c)
    (constant S128x512 .f32 0x00000000#32) r j).trans ?_
  show Ideal.ofBits .f32 0x00000000#32 + _ = _
  rw [Ideal.ofBits_zero_f32, zero_add]
  exact Finset.sum_congr rfl fun k _ => by rw [rowsOf_apply]

/-- An element of a device's out block is its own sum and its peer's. -/
theorem outAt_apply (c : Dev nD) (r j : Fin 512) : outAt m c (ix2 r j) = ownSum m c r j + ownSum m (peer c) r j := by
  have hr : rowAt (quarter (ix2 r j)) ⟨r.val % 128, Nat.mod_lt _ (by decide)⟩ = r :=
    Fin.ext (Nat.div_add_mod r.val 128)
  have hx : inChunk (ix2 r j) = ix2 ⟨r.val % 128, Nat.mod_lt _ (by decide)⟩ j := by
    funext a
    match a with
    | ⟨0, _⟩ => rfl
    | ⟨1, _⟩ => rfl
  have hp (d : Dev nD) : part m d (quarter (ix2 r j)) (inChunk (ix2 r j)) = ownSum m d r j := by
    rw [hx]; exact (part_apply m d _ _ j).trans (by rw [hr])
  show (part m c (quarter (ix2 r j)) (inChunk (ix2 r j)) + part m (peer c) (quarter (ix2 r j)) (inChunk (ix2 r j)) : EReal) = _
  rw [hp c, hp (peer c)]

end Cert.KProof

end
-- ==== Proof.Reference.lean ====
/-
# What the reference computes, over the reals

An element of `dy @ W.T` is the sum over all 4096 columns.
-/
module

public import proofs.«01_k».proof.Proof.Gen.ReferenceIdeal.Run
public import Idealize.ShloMosaic.Lib.MatmulPlain
public import Idealize.ShloMosaic.Lib.StackMember

@[expose] public section

noncomputable section

namespace Cert.KProof

open Cert.ReferenceIdeal Cert.ReferenceIdeal.Gen
open Idealize.ShloMosaic Idealize.ShloMosaic.ValueIdx

/-- The reference's result from its two arguments. -/
def refOut (X Y : S512x4096.Idx → Elt Ideal .bf16) : S512x512.Idx → Elt Ideal .f32 :=
  extf .f32 (truncf .bf16 (Host.dotGeneral (F := Ideal) (φ₁ := .bf16) (φ₂ := .bf16) dot_S512x4096_S4096x512_S512x512_1_0_0_1_n_n none X
    (transpose S4096x512 [1, 0] Y transposes_S512x4096_S4096x512_1_0)) bitsLt_bf16_f32) bitsLt_bf16_f32

/-- An element of it is row `r` of the one against row `j` of the other. -/
theorem refOut_apply (X Y : S512x4096.Idx → Elt Ideal .bf16) (r j : Fin 512) :
    refOut X Y (ix2 r j) = ∑ k : Fin 4096, (X (ix2 r k) : EReal) * (Y (ix2 j k) : EReal) := by
  refine (StackMember.dotGeneral_plain_apply (m := 512) (k := 4096) (n := 512) (φ₁ := .bf16) (φ₂ := .bf16) none X
    (transpose S4096x512 [1, 0] Y transposes_S512x4096_S4096x512_1_0) r j).trans ?_
  refine Finset.sum_congr rfl fun k _ => ?_
  rw [transpose_apply [1, 0] Y transposes_S512x4096_S4096x512_1_0 (ix2 k j) (ix2 j k) (fun a => by fin_cases a <;> rfl)]

end Cert.KProof

end
-- ==== Proof.Equation.lean ====
/-
# The equation

A device and its peer hold the two halves of the 4096 columns, so their two sums add up to the reference's.
-/
module

public import proofs.«01_k».proof.Proof.Final
public import proofs.«01_k».proof.Proof.Product
public import proofs.«01_k».proof.Proof.Reference
public import Idealize.ShloMosaic.Lib.Layout

@[expose] public section

noncomputable section

namespace Cert.KProof

open Cert.KernelIdeal
open Cert.ReferenceIdeal (S512x4096)
open Idealize.ShloMosaic Idealize.ShloMosaic.ValueIdx
open Idealize.ShloMosaic.TcCoe

/-- Column `k` of half `h` of the 4096 columns. -/
def colAt (h : Fin 2) (k : Fin 2048) : Fin 4096 := ⟨h.val * 2048 + k.val, by omega⟩

/-- The half device `c` holds: the lower on devices 0 to 7, the upper on devices 8 to 15. -/
def half (c : Dev nD) : Fin 2 := ⟨c.val / 8, by have h : c.val < 16 := c.isLt; omega⟩

/-- The part of the reference's sum that runs over one half of the columns. -/
def halfSum (X Y : S512x4096.Idx → Elt Ideal .bf16) (h : Fin 2) (r j : Fin 512) : EReal :=
  ∑ k : Fin 2048, (X (ix2 r (colAt h k)) : EReal) * (Y (ix2 j (colAt h k)) : EReal)

/-- A device and its peer hold different halves. -/
theorem half_peer (c : Dev nD) : (half c = 0 ∧ half (peer c) = 1) ∨ (half c = 1 ∧ half (peer c) = 0) := by
  revert c; decide

/-- The sum over all columns is the sum over the lower half and that over the upper. -/
theorem refOut_halves (X Y : S512x4096.Idx → Elt Ideal .bf16) (r j : Fin 512) :
    refOut X Y (ix2 r j) = halfSum X Y 0 r j + halfSum X Y 1 r j := by
  rw [refOut_apply]
  refine (Fin.sum_univ_add (a := 2048) (b := 2048) fun k : Fin 4096 => (X (ix2 r k) : EReal) * (Y (ix2 j k) : EReal)).trans ?_
  have h0 (k : Fin 2048) : (Fin.castAdd 2048 k : Fin 4096) = colAt 0 k := Fin.ext (by show k.val = 0 * 2048 + k.val; omega)
  have h1 (k : Fin 2048) : (Fin.natAdd 2048 k : Fin 4096) = colAt 1 k := Fin.ext (by show 2048 + k.val = 1 * 2048 + k.val; omega)
  unfold halfSum
  exact congrArg₂ (· + ·) (Finset.sum_congr rfl fun k _ => by rw [h0]) (Finset.sum_congr rfl fun k _ => by rw [h1])

/-- The block device `c` holds of an array cut along its columns over the outermost mesh axis. -/
abbrev blockOf (c : Dev nD) (X : S512x4096.Idx → Elt Ideal .bf16) : S512x2048.Idx → Elt Ideal .bf16 :=
  Layout.blockN ⟨2, ![512, 2048]⟩ ⟨2, ![512, 4096]⟩ (Layout.meshBlock [2, 2, 4] ![[], [0]] c) X

/-- Element `(r, k)` of the block device `c` holds is element `(r, k)` of its half of the columns. -/
theorem block_apply (X : S512x4096.Idx → Elt Ideal .bf16) (c : Dev nD) (r : Fin 512) (k : Fin 2048) :
    blockOf c X (ix2 r k) = X (ix2 r (colAt (half c) k)) := by
  have hc : c.val < 16 := c.isLt
  refine congrArg X (funext fun a => Fin.ext ?_)
  match a with
  | ⟨0, _⟩ => show 0 * 512 + r.val = r.val; omega
  | ⟨1, _⟩ =>
    show (c.val / 8 % 2 * 1 + 0) * 2048 + k.val = c.val / 8 * 2048 + k.val
    omega

variable (m : (ℓ : Loc nD τ sig) → Buf (Elt Ideal) ℓ)

/-- When every device holds its blocks of `X` and `Y`, its own sum is the sum over its half; -/
theorem ownSum_eq (X Y : S512x4096.Idx → Elt Ideal .bf16) (c : Dev nD)
    (hX : m ((c : Thread nD τ).loc main_arg0) = blockOf c X)
    (hY : m ((c : Thread nD τ).loc main_arg1) = blockOf c Y)
    (r j : Fin 512) : ownSum m c r j = halfSum X Y (half c) r j := by
  unfold ownSum halfSum
  rw [dyAt_eq, wAt_eq, hX, hY]
  exact Finset.sum_congr rfl fun k _ => by rw [block_apply, block_apply]

/-- and every device's out block is the reference's result. -/
theorem outAt_eq (X Y : S512x4096.Idx → Elt Ideal .bf16)
    (h : ∀ c : Dev nD, m ((c : Thread nD τ).loc main_arg0) = blockOf c X
      ∧ m ((c : Thread nD τ).loc main_arg1) = blockOf c Y)
    (c : Dev nD) : outAt m c = refOut X Y := by
  funext x
  obtain ⟨r, j, rfl⟩ : ∃ (r j : Fin 512), x = ix2 r j := ⟨x 0, x 1, eq_ix2 x⟩
  rw [outAt_apply, ownSum_eq m X Y c (h c).1 (h c).2, ownSum_eq m X Y (peer c) (h _).1 (h _).2, refOut_halves]
  rcases half_peer c with ⟨h0, h1⟩ | ⟨h0, h1⟩ <;> rw [h0, h1]
  exact add_comm _ _

end Cert.KProof

end
-- ==== Proof.lean ====
/-
# The certificate

Both programs' frames, read off the run of @main; the reference's, off its generated run; and the equation of the two
programs' results over the reals.
-/
module

public import proofs.«01_k».proof.Defs
public import proofs.«01_k».proof.Proof.Run
public import proofs.«01_k».proof.Proof.Equation
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel's two printed programs have the same body, -/
theorem bodies_eq : Cert.Kernel.defs₀ (F := Bits) = Cert.KernelIdeal.defs₀ (F := Bits) :=
  congrArg Defs.onTc (funext fun ℓ => funext fun a => by
    match ℓ, a with
    | ⟨0, _⟩, (t, s) => rfl
    | ⟨n + 1, h⟩, _ => exact absurd h (Nat.not_lt.2 (Nat.le_add_left _ _)))
/-- and so the same definitions. -/
theorem defs_eq : Cert.Kernel.defs (F := Bits) = Cert.KernelIdeal.defs (F := Bits) :=
  congrArg (Pipeline.defs (Cert.Kernel.pcfgs (F := Bits))) bodies_eq

/-- The kernel at machine floats runs, leaves its arguments as they were, and ends with every counter at zero. -/
theorem frame_kernel : Cert.quiescent_Kernel := fun m ρ _ => by
  rw [defs_eq]
  exact (θ_run (Cert.KernelIdeal.defs (F := Bits)) _ _).mono
    (fun _ h => ⟨fun c => ⟨(h.1 c (0 : Fin 3)).trans (Cert.KProof.finalA_dy m ρ c), (h.1 c (1 : Fin 3)).trans (Cert.KProof.finalA_w m ρ c)⟩, h.2⟩)
    (Cert.KProof.run_main (F := Bits) m ρ)

/-- So does the kernel read over the reals. -/
theorem frame_ideal : Cert.quiescent_KernelIdeal := fun m ρ _ =>
  (θ_run Cert.KernelIdeal.defs _ _).mono
    (fun _ h => ⟨fun c => ⟨(h.1 c (0 : Fin 3)).trans (Cert.KProof.finalA_dy m ρ c), (h.1 c (1 : Fin 3)).trans (Cert.KProof.finalA_w m ρ c)⟩, h.2⟩)
    (Cert.KProof.run_main (F := Ideal) m ρ)

/-- So does the reference, which has no counters. -/
theorem frame_reference : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run (F := Ideal) m ρ)

/-- From memories where every device holds its column blocks of the reference's two arguments, both programs run, and
    every device's result is the reference's `dy @ W.T`. -/
theorem algebraic : Cert.algebraic_KernelIdeal_ReferenceIdeal := fun m g m' g' _ hin =>
  ⟨Cert.KProof.refOut (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono
      (fun _ h c => ⟨((h.1 c (2 : Fin 3)).trans (Cert.KProof.finalA_out m g c)).trans (Cert.KProof.outAt_eq m _ _ hin c),
        (h.1 c (0 : Fin 3)).trans (Cert.KProof.finalA_dy m g c), (h.1 c (1 : Fin 3)).trans (Cert.KProof.finalA_w m g c)⟩)
      (Cert.KProof.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
